-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens_KernelIdeal [hPre_finite_tokens_KernelIdeal : Cert.Pre_finite_tokens_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens_ReferenceIdeal [hPre_finite_tokens_ReferenceIdeal : Cert.Pre_finite_tokens_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_tokens_KernelIdeal [hKernelIdeal : Cert.KernelIdeal.Facts] [hPre_finite_tokens_KernelIdeal : Cert.Pre_finite_tokens_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_tokens_ReferenceIdeal [hReferenceIdeal : Cert.ReferenceIdeal.Facts] [hPre_finite_tokens_ReferenceIdeal : Cert.Pre_finite_tokens_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_tokens_KernelIdeal [hKernelIdeal : Cert.KernelIdeal.Facts] [hReferenceIdeal : Cert.ReferenceIdeal.Facts] [hPre_finite_tokens_KernelIdeal : Cert.Pre_finite_tokens_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.blockN ⟨3, ![4, 1024, 2048]⟩ ⟨3, ![16, 1024, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![16, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v59)) (v1 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = Layout.blockN ⟨2, ![1024, 768]⟩ ⟨2, ![1024, 3072]⟩ (Layout.meshBlock [2, 4, 4] ![[], [2]] c) v0
          ∧ r.2.mem ((c.tc : Thread Cert.KernelIdeal.nD Cert.KernelIdeal.τ).loc Cert.KernelIdeal.main_v67) = Layout.blockN ⟨3, ![4, 192, 1024]⟩ ⟨3, ![16, 192, 1024]⟩ (Layout.meshBlock [2, 4, 4] ![[2], [], []] c) v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v59) = v0
          ∧ r.2.mem (((0 : Dev Cert.ReferenceIdeal.nD).tc : Thread Cert.ReferenceIdeal.nD Cert.ReferenceIdeal.τ).loc Cert.ReferenceIdeal.main_v47) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_tokens_KernelIdeal : Cert.Pre_finite_tokens_KernelIdeal.Facts) (hPre_finite_tokens_ReferenceIdeal : Cert.Pre_finite_tokens_ReferenceIdeal.Facts),
    quiescent_Kernel (hKernel := hKernel)
    ∧ quiescent_KernelIdeal (hKernelIdeal := hKernelIdeal)
    ∧ quiescent_KernelIdeal_pre_finite_tokens_KernelIdeal (hKernelIdeal := hKernelIdeal) (hPre_finite_tokens_KernelIdeal := hPre_finite_tokens_KernelIdeal)
    ∧ quiescent_ReferenceIdeal (hReferenceIdeal := hReferenceIdeal)
    ∧ quiescent_ReferenceIdeal_pre_finite_tokens_ReferenceIdeal (hReferenceIdeal := hReferenceIdeal) (hPre_finite_tokens_ReferenceIdeal := hPre_finite_tokens_ReferenceIdeal)
    ∧ preserves_Kernel_KernelIdeal
    ∧ algebraic_KernelIdeal_ReferenceIdeal_pre_finite_tokens_KernelIdeal (hKernelIdeal := hKernelIdeal) (hReferenceIdeal := hReferenceIdeal) (hPre_finite_tokens_KernelIdeal := hPre_finite_tokens_KernelIdeal)
-- ==== Pre_finite_tokens_KernelIdeal.lean ====
abbrev S1024x1024 : Shape := ⟨2, ![1024, 1024]⟩
abbrev S1024x16 : Shape := ⟨2, ![1024, 16]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S1024x1024 .f32) (main_arg1 : FVec F S1024x16 .f32) (main_arg2 : FVec F S4x1024x2048 .f32) (main_arg3 : FVec F S4x2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Pre_finite_tokens_ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S1024x1024 .f32) (main_arg1 : FVec F S1024x16 .f32) (main_arg2 : FVec F S16x1024x2048 .f32) (main_arg3 : FVec F S16x2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Kernel.lean ====
abbrev S1024x1024 : Shape := ⟨2, ![1024, 1024]⟩
abbrev S1024x16 : Shape := ⟨2, ![1024, 16]⟩
abbrev S4x1024x2048 : Shape := ⟨3, ![4, 1024, 2048]⟩
abbrev S4x2048x1024 : Shape := ⟨3, ![4, 2048, 1024]⟩
abbrev S_ : Shape := ⟨0, ![]⟩
abbrev S16x1024 : Shape := ⟨2, ![16, 1024]⟩
abbrev S1024 : Shape := ⟨1, ![1024]⟩
abbrev S1024x1 : Shape := ⟨2, ![1024, 1]⟩
abbrev S1x16 : Shape := ⟨2, ![1, 16]⟩
abbrev S4 : Shape := ⟨1, ![4]⟩
abbrev S1x4 : Shape := ⟨2, ![1, 4]⟩
abbrev S1024x4 : Shape := ⟨2, ![1024, 4]⟩
abbrev S192 : Shape := ⟨1, ![192]⟩
abbrev S4x1024 : Shape := ⟨2, ![4, 1024]⟩
abbrev S4x1x1024 : Shape := ⟨3, ![4, 1, 1024]⟩
abbrev S1x192x1 : Shape := ⟨3, ![1, 192, 1]⟩
abbrev S4x192x1024 : Shape := ⟨3, ![4, 192, 1024]⟩
abbrev S1024x4x1 : Shape := ⟨3, ![1024, 4, 1]⟩
abbrev S1x1x192 : Shape := ⟨3, ![1, 1, 192]⟩
abbrev S1024x4x192 : Shape := ⟨3, ![1024, 4, 192]⟩
abbrev S1024x768 : Shape := ⟨2, ![1024, 768]⟩
abbrev S1x192x1024 : Shape := ⟨3, ![1, 192, 1024]⟩
abbrev S1x1024x2048 : Shape := ⟨3, ![1, 1024, 2048]⟩
abbrev S1x2048x1024 : Shape := ⟨3, ![1, 2048, 1024]⟩
abbrev S192x1024 : Shape := ⟨2, ![192, 1024]⟩
abbrev S1024x2048 : Shape := ⟨2, ![1024, 2048]⟩
abbrev S192x2048 : Shape := ⟨2, ![192, 2048]⟩
abbrev S2048x1024 : Shape := ⟨2, ![2048, 1024]⟩

abbrev nBuf : Space → Nat
  | .hbm => 101
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024x16, .f32⟩
  | .hbm, ⟨2, _⟩ => ⟨S4x1024x2048, .f32⟩
  | .hbm, ⟨3, _⟩ => ⟨S4x2048x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16x1024, .f32⟩
  | .hbm, ⟨11, _⟩ => ⟨S1024x16, .f32⟩
  | .hbm, ⟨12, _⟩ => ⟨S_, .f32⟩
  | .hbm, ⟨13, _⟩ => ⟨S1024, .f32⟩
  | .hbm, ⟨14, _⟩ => ⟨S1024x16, .i32⟩
  | .hbm, ⟨15, _⟩ => ⟨S_, .f32⟩
  | .hbm, ⟨16, _⟩ => ⟨S_, .i32⟩
  | .hbm, ⟨17, _⟩ => ⟨S1024, .f32⟩
  | .hbm, ⟨18, _⟩ => ⟨S1024, .i32⟩
  | .hbm, ⟨19, _⟩ => ⟨S1024x1, .i32⟩
  | .hbm, ⟨20, _⟩ => ⟨S1x16, .i32⟩
  | .hbm, ⟨21, _⟩ => ⟨S1024x16, .i32⟩
  | .hbm, ⟨22, _⟩ => ⟨S1024x16, .i32⟩
  | .hbm, ⟨23, _⟩ => ⟨S1024x16, .i1⟩
  | .hbm, ⟨24, _⟩ => ⟨S_, .f32⟩
  | .hbm, ⟨25, _⟩ => ⟨S_, .f32⟩
  | .hbm, ⟨26, _⟩ => ⟨S1024x16, .f32⟩
  | .hbm, ⟨27, _⟩ => ⟨S1024x16, .f32⟩
  | .hbm, ⟨28, _⟩ => ⟨S_, .f32⟩
  | .hbm, ⟨29, _⟩ => ⟨S1024, .f32⟩
  | .hbm, ⟨30, _⟩ => ⟨S1024x16, .i32⟩
  | .hbm, ⟨31, _⟩ => ⟨S_, .f32⟩
  | .hbm, ⟨32, _⟩ => ⟨S_, .i32⟩
  | .hbm, ⟨33, _⟩ => ⟨S1024, .f32⟩
  | .hbm, ⟨34, _⟩ => ⟨S1024, .i32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S_, .i32⟩
  | .hbm, ⟨47, _⟩ => ⟨S_, .i32⟩
  | .hbm, ⟨48, _⟩ => ⟨S4, .i32⟩
  | .hbm, ⟨49, _⟩ => ⟨S4, .i32⟩
  | .hbm, ⟨50, _⟩ => ⟨S4, .i32⟩
  | .hbm, ⟨51, _⟩ => ⟨S1024x1, .i32⟩
  | .hbm, ⟨52, _⟩ => ⟨S1x4, .i32⟩
  | .hbm, ⟨53, _⟩ => ⟨S1024x4, .i32⟩
  | .hbm, ⟨54, _⟩ => ⟨S1024x4, .i32⟩
  | .hbm, ⟨55, _⟩ => ⟨S1024x4, .i1⟩
  | .hbm, ⟨56, _⟩ => ⟨S1024x1, .i32⟩
  | .hbm, ⟨57, _⟩ => ⟨S1x4, .i32⟩
  | .hbm, ⟨58, _⟩ => ⟨S1024x4, .i32⟩
  | .hbm, ⟨59, _⟩ => ⟨S1024x4, .i32⟩
  | .hbm, ⟨60, _⟩ => ⟨S1024x4, .i1⟩
  | .hbm, ⟨61, _⟩ => ⟨S1024x4, .i1⟩
  | .hbm, ⟨62, _⟩ => ⟨S1024x1, .f32⟩
  | .hbm, ⟨63, _⟩ => ⟨S1024x4, .f32⟩
  | .hbm, ⟨64, _⟩ => ⟨S1024x4, .f32⟩
  | .hbm, ⟨65, _⟩ => ⟨S1024x4, .f32⟩
  | .hbm, ⟨66, _⟩ => ⟨S1024x1, .f32⟩
  | .hbm, ⟨67, _⟩ => ⟨S1024x4, .f32⟩
  | .hbm, ⟨68, _⟩ => ⟨S1024x4, .f32⟩
  | .hbm, ⟨69, _⟩ => ⟨S1024x4, .f32⟩
  | .hbm, ⟨70, _⟩ => ⟨S1024x4, .f32⟩
  | .hbm, ⟨71, _⟩ => ⟨S1024x4, .i32⟩
  | .hbm, ⟨72, _⟩ => ⟨S_, .i32⟩
  | .hbm, ⟨73, _⟩ => ⟨S_, .i32⟩
  | .hbm, ⟨74, _⟩ => ⟨S1024x4, .i32⟩
  | .hbm, ⟨75, _⟩ => ⟨S_, .i32⟩
  | .hbm, ⟨76, _⟩ => ⟨S1024x4, .i32⟩
  | .hbm, ⟨77, _⟩ => ⟨S1024x4, .i32⟩
  | .hbm, ⟨78, _⟩ => ⟨S_, .i32⟩
  | .hbm, ⟨79, _⟩ => ⟨S_, .i32⟩
  | .hbm, ⟨80, _⟩ => ⟨S1024x4, .i32⟩
  | .hbm, ⟨81, _⟩ => ⟨S1024x4, .i32⟩
  | .hbm, ⟨82, _⟩ => ⟨S192, .i32⟩
  | .hbm, ⟨83, _⟩ => ⟨S4x1024, .i32⟩
  | .hbm, ⟨84, _⟩ => ⟨S4x1x1024, .i32⟩
  | .hbm, ⟨85, _⟩ => ⟨S1x192x1, .i32⟩
  | .hbm, ⟨86, _⟩ => ⟨S4x192x1024, .i32⟩
  | .hbm, ⟨87, _⟩ => ⟨S4x192x1024, .i32⟩
  | .hbm, ⟨88, _⟩ => ⟨S4x192x1024, .i1⟩
  | .hbm, ⟨89, _⟩ => ⟨S4x192x1024, .f32⟩
  | .hbm, ⟨90, _⟩ => ⟨S1024x4x1, .i32⟩
  | .hbm, ⟨91, _⟩ => ⟨S1x1x192, .i32⟩
  | .hbm, ⟨92, _⟩ => ⟨S1024x4x192, .i32⟩
  | .hbm, ⟨93, _⟩ => ⟨S1024x4x192, .i32⟩
  | .hbm, ⟨94, _⟩ => ⟨S1024x4x192, .i1⟩
  | .hbm, ⟨95, _⟩ => ⟨S1024x4x1, .f32⟩
  | .hbm, ⟨96, _⟩ => ⟨S1024x4x192, .f32⟩
  | .hbm, ⟨97, _⟩ => ⟨S1024x4x192, .f32⟩
  | .hbm, ⟨98, _⟩ => ⟨S1024x4x192, .f32⟩
  | .hbm, ⟨99, _⟩ => ⟨S1024x768, .f32⟩
  | .hbm, ⟨100, _⟩ => ⟨S4x192x1024, .f32⟩
  | .local _ .vmem, ⟨0, _⟩ => ⟨S1x192x1024, .f32⟩
  | .local _ .vmem, ⟨1, _⟩ => ⟨S1x192x1024, .f32⟩
  | .local _ .vmem, ⟨2, _⟩ => ⟨S1024x1024, .f32⟩
  | .local _ .vmem, ⟨3, _⟩ => ⟨S1x1024x2048, .f32⟩
  | .local _ .vmem, ⟨4, _⟩ => ⟨S1x1024x2048, .f32⟩
  | .local _ .vmem, ⟨5, _⟩ => ⟨S1x2048x1024, .f32⟩
  | .local _ .vmem, ⟨6, _⟩ => ⟨S1x2048x1024, .f32⟩
  | .local _ .vmem, ⟨7, _⟩ => ⟨S1x192x1024, .f32⟩
  | .local _ .vmem, ⟨8, _⟩ => ⟨S1x192x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v8 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_v9 : Ref sig .tc := ⟨.hbm, 23, rfl⟩
abbrev main_cst_1 : Ref sig .tc := ⟨.hbm, 24, rfl⟩
abbrev main_call2_v0 : Ref sig .tc := ⟨.hbm, 25, rfl⟩
abbrev main_call2_v1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_call3_v0 : Ref sig .tc := ⟨.hbm, 30, rfl⟩
abbrev main_call3_cst : Ref sig .tc := ⟨.hbm, 31, rfl⟩
abbrev main_call3_c : Ref sig .tc := ⟨.hbm, 32, rfl⟩
abbrev main_call3_v1_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_v18 : Ref sig .tc := ⟨.hbm, 42, rfl⟩
abbrev main_cst_5 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call4_v0 : Ref sig .tc := ⟨.hbm, 71, rfl⟩
abbrev main_call4_call0_c : Ref sig .tc := ⟨.hbm, 72, rfl⟩
abbrev main_call4_call0_v0 : Ref sig .tc := ⟨.hbm, 73, rfl⟩
abbrev main_v45 : Ref sig .tc := ⟨.hbm, 74, rfl⟩
abbrev main_c_7 : Ref sig .tc := ⟨.hbm, 75, rfl⟩
abbrev main_v46 : Ref sig .tc := ⟨.hbm, 76, rfl⟩
abbrev main_v47 : Ref sig .tc := ⟨.hbm, 77, rfl⟩
abbrev main_c_8 : Ref sig .tc := ⟨.hbm, 78, rfl⟩
abbrev main_call5_v0 : Ref sig .tc := ⟨.hbm, 79, rfl⟩
abbrev main_call5_v1 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 32
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S1024x2 : Shape := ⟨2, ![1024, 2]⟩
abbrev S_ : Shape := ⟨0, ![]⟩
abbrev S1024x2x1 : Shape := ⟨3, ![1024, 2, 1]⟩
abbrev S1 : Shape := ⟨1, ![1]⟩
abbrev S1x1x1 : Shape := ⟨3, ![1, 1, 1]⟩
abbrev S1024 : Shape := ⟨1, ![1024]⟩
abbrev S1024x1 : Shape := ⟨2, ![1024, 1]⟩
abbrev S16 : Shape := ⟨1, ![16]⟩
abbrev S1x1x16 : Shape := ⟨3, ![1, 1, 16]⟩
abbrev S1024x2x16 : Shape := ⟨3, ![1024, 2, 16]⟩
abbrev S192x16 : Shape := ⟨2, ![192, 16]⟩
abbrev S16x192 : Shape := ⟨2, ![16, 192]⟩
abbrev S192 : Shape := ⟨1, ![192]⟩
abbrev S16x1 : Shape := ⟨2, ![16, 1]⟩
abbrev S1x192 : Shape := ⟨2, ![1, 192]⟩
abbrev S16x192x1 : Shape := ⟨3, ![16, 192, 1]⟩
abbrev S16x192x1024 : Shape := ⟨3, ![16, 192, 1024]⟩
abbrev S16x192x2048 : Shape := ⟨3, ![16, 192, 2048]⟩
abbrev S1024x1x1 : Shape := ⟨3, ![1024, 1, 1]⟩
abbrev S1x16x192 : Shape := ⟨3, ![1, 16, 192]⟩
abbrev S1024x16x192 : Shape := ⟨3, ![1024, 16, 192]⟩
abbrev S1024x16x1 : Shape := ⟨3, ![1024, 16, 1]⟩
abbrev S1024x3072 : Shape := ⟨2, ![1024, 3072]⟩

abbrev nBuf : Space → Nat
  | .hbm => 110
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16, .f32⟩
  | .hbm, ⟨2, _⟩ => ⟨S16x1024x2048, .f32⟩
  | .hbm, ⟨3, _⟩ => ⟨S16x2048x1024, .f32⟩
  | .hbm, ⟨4, _⟩ => ⟨S1024x16, .f32⟩
  | .hbm, ⟨5, _⟩ => ⟨S1024x16, .f32⟩
  | .hbm, ⟨6, _⟩ => ⟨S1024x16, .i32⟩
  | .hbm, ⟨7, _⟩ => ⟨S1024x16, .f32⟩
  | .hbm, ⟨8, _⟩ => ⟨S1024x16, .i32⟩
  | .hbm, ⟨9, _⟩ => ⟨S1024x2, .i32⟩
  | .hbm, ⟨10, _⟩ => ⟨S_, .i32⟩
  | .hbm, ⟨11, _⟩ => ⟨S1024x2, .i32⟩
  | .hbm, ⟨12, _⟩ => ⟨S1024x2, .i1⟩
  | .hbm, ⟨13, _⟩ => ⟨S_, .i32⟩
  | .hbm, ⟨14, _⟩ => ⟨S1024x2, .i32⟩
  | .hbm, ⟨15, _⟩ => ⟨S1024x2, .i32⟩
  | .hbm, ⟨16, _⟩ => ⟨S1024x2, .i32⟩
  | .hbm, ⟨17, _⟩ => ⟨S1024x2x1, .i32⟩
  | .hbm, ⟨18, _⟩ => ⟨S1, .i32⟩
  | .hbm, ⟨19, _⟩ => ⟨S_, .i32⟩
  | .hbm, ⟨20, _⟩ => ⟨S1024x2x1, .i32⟩
  | .hbm, ⟨21, _⟩ => ⟨S1024x2x1, .i1⟩
  | .hbm, ⟨22, _⟩ => ⟨S1x1x1, .i32⟩
  | .hbm, ⟨23, _⟩ => ⟨S1024x2x1, .i32⟩
  | .hbm, ⟨24, _⟩ => ⟨S1024x2x1, .i1⟩
  | .hbm, ⟨25, _⟩ => ⟨S1024x2x1, .i1⟩
  | .hbm, ⟨26, _⟩ => ⟨S_, .i1⟩
  | .hbm, ⟨27, _⟩ => ⟨S1024x2, .i1⟩
  | .hbm, ⟨28, _⟩ => ⟨S1024x2, .f32⟩
  | .hbm, ⟨29, _⟩ => ⟨S_, .f32⟩
  | .hbm, ⟨30, _⟩ => ⟨S1024x2, .f32⟩
  | .hbm, ⟨31, _⟩ => ⟨S1024x2, .f32⟩
  | .hbm, ⟨32, _⟩ => ⟨S_, .f32⟩
  | .hbm, ⟨33, _⟩ => ⟨S1024, .f32⟩
  | .hbm, ⟨34, _⟩ => ⟨S1024x1, .f32⟩
  | .hbm, ⟨35, _⟩ => ⟨S1024x2, .f32⟩
  | .hbm, ⟨36, _⟩ => ⟨S1024x2, .f32⟩
  | .hbm, ⟨37, _⟩ => ⟨S1024x2, .f32⟩
  | .hbm, ⟨38, _⟩ => ⟨S_, .f32⟩
  | .hbm, ⟨39, _⟩ => ⟨S1024, .f32⟩
  | .hbm, ⟨40, _⟩ => ⟨S1024x1, .f32⟩
  | .hbm, ⟨41, _⟩ => ⟨S1024x2, .f32⟩
  | .hbm, ⟨42, _⟩ => ⟨S1024x2, .f32⟩
  | .hbm, ⟨43, _⟩ => ⟨S1024x2x1, .i32⟩
  | .hbm, ⟨44, _⟩ => ⟨S16, .i32⟩
  | .hbm, ⟨45, _⟩ => ⟨S1x1x16, .i32⟩
  | .hbm, ⟨46, _⟩ => ⟨S1024x2x16, .i32⟩
  | .hbm, ⟨47, _⟩ => ⟨S1024x2x16, .i32⟩
  | .hbm, ⟨48, _⟩ => ⟨S1024x2x16, .i1⟩
  | .hbm, ⟨49, _⟩ => ⟨S1024x2x1, .f32⟩
  | .hbm, ⟨50, _⟩ => ⟨S_, .f32⟩
  | .hbm, ⟨51, _⟩ => ⟨S_, .f32⟩
  | .hbm, ⟨52, _⟩ => ⟨S1024x2x16, .f32⟩
  | .hbm, ⟨53, _⟩ => ⟨S1024x2x16, .f32⟩
  | .hbm, ⟨54, _⟩ => ⟨S1024x2x16, .f32⟩
  | .hbm, ⟨55, _⟩ => ⟨S_, .f32⟩
  | .hbm, ⟨56, _⟩ => ⟨S1024x16, .f32⟩
  | .hbm, ⟨57, _⟩ => ⟨S_, .i1⟩
  | .hbm, ⟨58, _⟩ => ⟨S1024x16, .i1⟩
  | .hbm, ⟨59, _⟩ => ⟨S1024x16, .i1⟩
  | .hbm, ⟨60, _⟩ => ⟨S1024x16, .i32⟩
  | .hbm, ⟨61, _⟩ => ⟨S1024x16, .i1⟩
  | .hbm, ⟨62, _⟩ => ⟨S1024x16, .i32⟩
  | .hbm, ⟨63, _⟩ => ⟨S192x16, .i32⟩
  | .hbm, ⟨64, _⟩ => ⟨S16x192, .i32⟩
  | .hbm, ⟨65, _⟩ => ⟨S192, .i32⟩
  | .hbm, ⟨66, _⟩ => ⟨S1024x16, .i32⟩
  | .hbm, ⟨67, _⟩ => ⟨S_, .i32⟩
  | .hbm, ⟨68, _⟩ => ⟨S16, .i32⟩
  | .hbm, ⟨69, _⟩ => ⟨S16x1, .i32⟩
  | .hbm, ⟨70, _⟩ => ⟨S1x192, .i32⟩
  | .hbm, ⟨71, _⟩ => ⟨S16x192, .i32⟩
  | .hbm, ⟨72, _⟩ => ⟨S16x192, .i32⟩
  | .hbm, ⟨73, _⟩ => ⟨S16x192, .i1⟩
  | .hbm, ⟨74, _⟩ => ⟨S16x192x1, .i1⟩
  | .hbm, ⟨75, _⟩ => ⟨S_, .i32⟩
  | .hbm, ⟨76, _⟩ => ⟨S16x192, .i32⟩
  | .hbm, ⟨77, _⟩ => ⟨S16x192, .i1⟩
  | .hbm, ⟨78, _⟩ => ⟨S_, .i32⟩
  | .hbm, ⟨79, _⟩ => ⟨S16x192, .i32⟩
  | .hbm, ⟨80, _⟩ => ⟨S16x192, .i32⟩
  | .hbm, ⟨81, _⟩ => ⟨S16x192, .i32⟩
  | .hbm, ⟨82, _⟩ => ⟨S16x192x1, .i32⟩
  | .hbm, ⟨83, _⟩ => ⟨S16x192x1024, .f32⟩
  | .hbm, ⟨84, _⟩ => ⟨S_, .f32⟩
  | .hbm, ⟨85, _⟩ => ⟨S_, .f32⟩
  | .hbm, ⟨86, _⟩ => ⟨S16x192x1024, .i1⟩
  | .hbm, ⟨87, _⟩ => ⟨S16x192x1024, .f32⟩
  | .hbm, ⟨88, _⟩ => ⟨S16x192x1024, .f32⟩
  | .hbm, ⟨89, _⟩ => ⟨S16x192x2048, .f32⟩
  | .hbm, ⟨90, _⟩ => ⟨S_, .f32⟩
  | .hbm, ⟨91, _⟩ => ⟨S16x192x2048, .f32⟩
  | .hbm, ⟨92, _⟩ => ⟨S16x192x2048, .f32⟩
  | .hbm, ⟨93, _⟩ => ⟨S16x192x1024, .f32⟩
  | .hbm, ⟨94, _⟩ => ⟨S1024, .i32⟩
  | .hbm, ⟨95, _⟩ => ⟨S1024x1x1, .i32⟩
  | .hbm, ⟨96, _⟩ => ⟨S1x16x192, .i32⟩
  | .hbm, ⟨97, _⟩ => ⟨S1024x16x192, .i32⟩
  | .hbm, ⟨98, _⟩ => ⟨S1024x16x192, .i32⟩
  | .hbm, ⟨99, _⟩ => ⟨S1024x16x192, .i1⟩
  | .hbm, ⟨100, _⟩ => ⟨S1x16x192, .i1⟩
  | .hbm, ⟨101, _⟩ => ⟨S1024x16x192, .i1⟩
  | .hbm, ⟨102, _⟩ => ⟨S1024x16x192, .i1⟩
  | .hbm, ⟨103, _⟩ => ⟨S1024x16x1, .f32⟩
  | .hbm, ⟨104, _⟩ => ⟨S_, .f32⟩
  | .hbm, ⟨105, _⟩ => ⟨S_, .f32⟩
  | .hbm, ⟨106, _⟩ => ⟨S1024x16x192, .f32⟩
  | .hbm, ⟨107, _⟩ => ⟨S1024x16x192, .f32⟩
  | .hbm, ⟨108, _⟩ => ⟨S1024x16x192, .f32⟩
  | .hbm, ⟨109, _⟩ => ⟨S1024x3072, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_c : Ref sig .tc := ⟨.hbm, 57, rfl⟩
abbrev main_v23 : Ref sig .tc := ⟨.hbm, 58, rfl⟩
abbrev main_v24 : Ref sig .tc := ⟨.hbm, 59, rfl⟩
abbrev main_call3_v0 : Ref sig .tc := ⟨.hbm, 60, rfl⟩
abbrev main_call3_v1_0 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_3 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_4 : Ref sig .tc := ⟨.hbm, 75, rfl⟩
abbrev main_v37 : Ref sig .tc := ⟨.hbm, 76, rfl⟩
abbrev main_v38 : Ref sig .tc := ⟨.hbm, 77, rfl⟩
abbrev main_c_5 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_6 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v44 : Ref sig .tc := ⟨.hbm, 88, rfl⟩
abbrev main_v45 : Ref sig .tc := ⟨.hbm, 89, rfl⟩
abbrev main_call5_cst : Ref sig .tc := ⟨.hbm, 90, rfl⟩
abbrev main_call5_v0 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_7 : Ref sig .tc := ⟨.hbm, 104, rfl⟩
abbrev main_call6_v0 : Ref sig .tc := ⟨.hbm, 105, rfl⟩
abbrev main_call6_v1 : Ref sig .tc := ⟨.hbm, 106, rfl⟩
abbrev main_call6_v2 : Ref sig .tc := ⟨.hbm, 107, rfl⟩
abbrev main_v58 : Ref sig .tc := ⟨.hbm, 108, rfl⟩
abbrev main_v59 : Ref sig .tc := ⟨.hbm, 109, rfl⟩

abbrev nD : Nat := 1
abbrev τ : Topo := Topo.v7x

variable {F : FTy → Type} [FloatOps F]
-- ==== Proof.Lines.lean ====
/-
  What the host lines before the feed-forward call leave: the slot matrix and the combine weights as terms of the tokens, the
  router and the device, one named term per value that a later line reads.
-/
module

public import proofs.«01_k».proof.Proof.Gen.KernelIdeal.Regions
public import Idealize.ShloMosaic.Lib.StableHlo.Run

@[expose] public section

set_option maxRecDepth 16384

noncomputable section

namespace Cert.KernelIdeal.Lines

open Cert.KernelIdeal Cert.KernelIdeal.Gen
open Idealize.ShloMosaic Idealize.ShloMosaic.TcCoe Idealize.ShloMosaic.StableHlo

variable {F : FTy → Type} [FloatOps F]

/-- The device's place along the last axis of the mesh. -/
def axisWord (c : Dev nD) : IVec S_ 32 := Host.remui (Host.divui (constantI S_ 32 (Dev.word c)) (constantI S_ 32 1#32)) (constantI S_ 32 4#32)

/-- The gates. -/
def gates (x : FVec F S1024x1024 .f32) (r : FVec F S1024x16 .f32) : FVec F S1024x16 .f32 :=
  Host.dotGeneral dot_S1024x1024_S16x1024_S1024x16_1_1_0_0_n_n (some .fp32) x
    (transpose S16x1024 [1, 0] r transposes_S1024x16_S16x1024_1_0)

/-- The largest gate of each token, and its expert. -/
def best (g : FVec F S1024x16 .f32) : FVec F S1024 .f32 :=
  Host.reduce FloatOps.maximumf g (constant S_ .f32 0xFF800000#32) reducesTo_S1024x16_S1024_d1 h_S_

@[inherit_doc best]
def bestAt (g : FVec F S1024x16 .f32) : IVec S1024 32 := fun j =>
  (Host.argReduce reducer_argmax_f32_i32 g (iotaInDim S1024x16 32 1) (constant S_ .f32 0xFF800000#32) (constantI S_ 32 0#32)
    reducesTo_S1024x16_S1024_d1 h_S_ j).2

/-- The gates with each token's chosen expert taken out. -/
def rest (g : FVec F S1024x16 .f32) (k : IVec S1024 32) : FVec F S1024x16 .f32 :=
  select (cmpi .eq (broadcastInDim S1024x16 ![0, 1] bcast_S1024x1_S1024x16_0_1 (broadcastInDim S1024x1 ![0] bcast_S1024_S1024x1_0 k))
      (broadcastInDim S1024x16 ![0, 1] bcast_S1x16_S1024x16_0_1 (iotaInDim S1x16 32 1)))
    (broadcastInDim S1024x16 ![] bcast_S_S1024x16 (constant S_ .f32 0xFF800000#32)) g

/-- The first weight, from the two largest gates. -/
def share (a b : FVec F S1024 .f32) : FVec F S1024 .f32 :=
  Host.divf (broadcastInDim S1024 ![] bcast_S_S1024 (constant S_ .f32 0x3F800000#32))
    (addf (broadcastInDim S1024 ![] bcast_S_S1024 (constant S_ .f32 0x3F800000#32)) (Host.exp (subf b a)))

/-- What the first weight leaves of one. -/
def other (s : FVec F S1024 .f32) : FVec F S1024 .f32 :=
  subf (broadcastInDim S1024 ![] bcast_S_S1024 (constant S_ .f32 0x3F800000#32)) s

/-- Which of the device's four experts is token's expert `k`. -/
def mine (z : IVec S_ 32) (k : IVec S1024 32) : IVec S1024x4 1 :=
  cmpi .eq (broadcastInDim S1024x4 ![0, 1] bcast_S1024x1_S1024x4_0_1 (broadcastInDim S1024x1 ![0] bcast_S1024_S1024x1_0 k))
    (broadcastInDim S1024x4 ![0, 1] bcast_S1x4_S1024x4_0_1 (broadcastInDim S1x4 ![1] bcast_S4_S1x4_1
      (addi (broadcastInDim S4 ![] bcast_S_S4 (muli z (constantI S_ 32 4#32))) (iotaInDim S4 32 0))))

/-- A weight where the mask is set. -/
def masked (b : IVec S1024x4 1) (w : FVec F S1024 .f32) : FVec F S1024x4 .f32 :=
  mulf (uitofp .f32 b) (broadcastInDim S1024x4 ![0, 1] bcast_S1024x1_S1024x4_0_1 (broadcastInDim S1024x1 ![0] bcast_S1024_S1024x1_0 w))

/-- How many tokens up to each are assigned to each expert. -/
def upTo (a : IVec S1024x4 1) : IVec S1024x4 32 :=
  Host.reduceWindow IntOp.addi ![1024, 1] ![1, 1] ![1023, 0] ![0, 0] (extui 32 a natLt_1_32)
    (broadcastInDim S_ ![] bcast_S_S_ (constantI S_ 32 0#32)) reduceWindows_S1024x4_S1024x4_w1024s1p1023_0_w1s1p0_0 h_S_

/-- Each assigned token's slot, minus one elsewhere. -/
def slot (a : IVec S1024x4 1) : IVec S1024x4 32 :=
  select a (subi (upTo a) (broadcastInDim S1024x4 ![] bcast_S_S1024x4 (constantI S_ 32 1#32)))
    (broadcastInDim S1024x4 ![] bcast_S_S1024x4 (constantI S_ 32 4294967295#32))

/-- The slot matrix, the call's first operand. -/
def hot (p : IVec S1024x4 32) : FVec F S4x192x1024 .f32 :=
  uitofp .f32 (cmpi .eq
    (broadcastInDim S4x192x1024 ![0, 1, 2] bcast_S4x1x1024_S4x192x1024_0_1_2 (broadcastInDim S4x1x1024 ![0, 2] bcast_S4x1024_S4x1x1024_0_2
      (transpose S4x1024 [1, 0] p transposes_S1024x4_S4x1024_1_0)))
    (broadcastInDim S4x192x1024 ![0, 1, 2] bcast_S1x192x1_S4x192x1024_0_1_2 (broadcastInDim S1x192x1 ![1] bcast_S192_S1x192x1_1 (iotaInDim S192 32 0))))

/-- The combine weights, before they are laid out in rows. -/
def combine (p : IVec S1024x4 32) (w : FVec F S1024x4 .f32) : FVec F S1024x4x192 .f32 :=
  mulf (uitofp .f32 (cmpi .eq
      (broadcastInDim S1024x4x192 ![0, 1, 2] bcast_S1024x4x1_S1024x4x192_0_1_2 (broadcastInDim S1024x4x1 ![0, 1] bcast_S1024x4_S1024x4x1_0_1 p))
      (broadcastInDim S1024x4x192 ![0, 1, 2] bcast_S1x1x192_S1024x4x192_0_1_2 (broadcastInDim S1x1x192 ![2] bcast_S192_S1x1x192_2 (iotaInDim S192 32 0)))))
    (broadcastInDim S1024x4x192 ![0, 1, 2] bcast_S1024x4x1_S1024x4x192_0_1_2 (broadcastInDim S1024x4x1 ![0, 1] bcast_S1024x4_S1024x4x1_0_1 w))

/-! ## The lines, one group at a time -/

section groups
variable (W : Valuation τ sig (Elt F))

theorem group0 (c : Dev nD) : after (hostOps0 c) W main_v4 = axisWord c
    ∧ after (hostOps0 c) W main_v6 = gates (W main_arg0) (W main_arg1)
    ∧ after (hostOps0 c) W main_v7 = best (gates (W main_arg0) (W main_arg1)) := by
  refine ⟨?_, ?_, ?_⟩ <;> (simp only [hostOps0]; after_results_simp <;> rfl)

theorem group1 : after hostOps0_1 W main_v8 = bestAt (W main_v6) := by
  simp only [hostOps0_1, TRef.binary, TRef.nullary, TRef.quaternary, TRef.toBuf, TRef.ofBuf, cast_eq]; after_results_simp <;> rfl

theorem group24 : after hostOps0_4 (after hostOps0_3 (after hostOps0_2 W)) main_v10 = rest (W main_v6) (W main_v8) := by
  simp only [hostOps0_2, hostOps0_3, hostOps0_4, TRef.binary, TRef.nullary, TRef.unary, TRef.ternary, TRef.toBuf, TRef.ofBuf, cast_eq]
  after_results_simp <;> rfl

theorem group5 : after hostOps0_5 W main_v11 = best (W main_v10) := by
  simp only [hostOps0_5]; after_results_simp <;> rfl

theorem group6 : after hostOps0_6 W main_v12 = bestAt (W main_v10) := by
  simp only [hostOps0_6, TRef.binary, TRef.nullary, TRef.quaternary, TRef.toBuf, TRef.ofBuf, cast_eq]; after_results_simp <;> rfl

theorem group7 : after hostOps0_7 W main_v35 = ori (mine (W main_v4) (W main_v8)) (mine (W main_v4) (W main_v12))
    ∧ after hostOps0_7 W main_v44 = addf (masked (mine (W main_v4) (W main_v8)) (share (W main_v7) (W main_v11)))
        (masked (mine (W main_v4) (W main_v12)) (other (share (W main_v7) (W main_v11)))) := by
  refine ⟨?_, ?_⟩ <;> (simp only [hostOps0_7]; after_results_simp <;> rfl)

theorem group810 : after hostOps0_10 (after hostOps0_9 (after hostOps0_8 W)) main_v48 = slot (W main_v35) := by
  simp only [hostOps0_8, hostOps0_9, hostOps0_10, TRef.binary, TRef.nullary, TRef.unary, TRef.ternary, TRef.toBuf, TRef.ofBuf, cast_eq]
  after_results_simp <;> rfl

theorem group11 : after hostOps0_11 W main_v56 = hot (W main_v48)
    ∧ after hostOps0_11 W main_v66 = shapeCast S1024x768 (combine (W main_v48) (W main_v44)) shapeCasts_S1024x4x192_S1024x768 := by
  refine ⟨?_, ?_⟩ <;> (simp only [hostOps0_11]; after_results_simp <;> rfl)

end groups

/-! ## Together -/

/-- The first choice and the second, from the gates. -/
def k1 (g : FVec F S1024x16 .f32) : IVec S1024 32 := bestAt g

@[inherit_doc k1]
def k2 (g : FVec F S1024x16 .f32) : IVec S1024 32 := bestAt (rest g (k1 g))

/-- Which tokens each of the device's experts takes, and at what weights. -/
def taken (z : IVec S_ 32) (g : FVec F S1024x16 .f32) : IVec S1024x4 1 := ori (mine z (k1 g)) (mine z (k2 g))

@[inherit_doc taken]
def weights (z : IVec S_ 32) (g : FVec F S1024x16 .f32) : FVec F S1024x4 .f32 :=
  addf (masked (mine z (k1 g)) (share (best g) (best (rest g (k1 g)))))
    (masked (mine z (k2 g)) (other (share (best g) (best (rest g (k1 g))))))

variable (m : (ℓ : Loc nD τ sig) → Buf (Elt F) ℓ)

theorem V8_v35_v44 (c : Dev nD) :
    V8 m c main_v35 = taken (axisWord c) (gates (V0 m c main_arg0) (V0 m c main_arg1))
    ∧ V8 m c main_v44 = weights (axisWord c) (gates (V0 m c main_arg0) (V0 m c main_arg1)) := by
  have h6 : V1 m c main_v6 = gates (V0 m c main_arg0) (V0 m c main_arg1) := (group0 (V0 m c) c).2.1
  have h7 : V1 m c main_v7 = best (gates (V0 m c main_arg0) (V0 m c main_arg1)) := (group0 (V0 m c) c).2.2
  have h4 : V1 m c main_v4 = axisWord c := (group0 (V0 m c) c).1
  have h8 : V2 m c main_v8 = bestAt (V1 m c main_v6) := group1 (V1 m c)
  have h6' : V2 m c main_v6 = V1 m c main_v6 := V2_of m c main_v6 (by decide)
  have h10 : V5 m c main_v10 = rest (V2 m c main_v6) (V2 m c main_v8) := group24 (V2 m c)
  have h11 : V6 m c main_v11 = best (V5 m c main_v10) := group5 (V5 m c)
  have h10' : V6 m c main_v10 = V5 m c main_v10 := V6_of m c main_v10 (by decide)
  have h12 : V7 m c main_v12 = bestAt (V6 m c main_v10) := group6 (V6 m c)
  have g11 : V7 m c main_v11 = V6 m c main_v11 := V7_of m c main_v11 (by decide)
  have g7 : V7 m c main_v7 = V1 m c main_v7 := by
    rw [V7_of m c main_v7 (by decide), V6_of m c main_v7 (by decide), V5_of m c main_v7 (by decide), V4_of m c main_v7 (by decide),
      V3_of m c main_v7 (by decide), V2_of m c main_v7 (by decide)]
  have g4 : V7 m c main_v4 = V1 m c main_v4 := by
    rw [V7_of m c main_v4 (by decide), V6_of m c main_v4 (by decide), V5_of m c main_v4 (by decide), V4_of m c main_v4 (by decide),
      V3_of m c main_v4 (by decide), V2_of m c main_v4 (by decide)]
  have g8 : V7 m c main_v8 = V2 m c main_v8 := by
    rw [V7_of m c main_v8 (by decide), V6_of m c main_v8 (by decide), V5_of m c main_v8 (by decide), V4_of m c main_v8 (by decide),
      V3_of m c main_v8 (by decide)]
  obtain ⟨h35, h44⟩ := group7 (V7 m c)
  rw [h12, h10', h10, h6', h6, g8, h8, h6, g4, h4] at h35
  rw [h12, g11, h11, h10', h10, h6', h6, g8, h8, h6, g4, h4, g7, h7] at h44
  exact ⟨h35, h44⟩

theorem operand (c : Dev nD) :
    V12 m c main_v56 = hot (slot (taken (axisWord c) (gates (V0 m c main_arg0) (V0 m c main_arg1)))) := by
  have h48 : V11 m c main_v48 = slot (V8 m c main_v35) := group810 (V8 m c)
  have h := (group11 (V11 m c)).1
  rw [h48, (V8_v35_v44 m c).1] at h
  exact h

theorem weightRows (c : Dev nD) : V12 m c main_v66
    = shapeCast S1024x768 (combine (slot (taken (axisWord c) (gates (V0 m c main_arg0) (V0 m c main_arg1))))
        (weights (axisWord c) (gates (V0 m c main_arg0) (V0 m c main_arg1)))) shapeCasts_S1024x4x192_S1024x768 := by
  have h48 : V11 m c main_v48 = slot (V8 m c main_v35) := group810 (V8 m c)
  have h44 : V11 m c main_v44 = V8 m c main_v44 := by
    rw [V11_of m c main_v44 (by decide), V10_of m c main_v44 (by decide), V9_of m c main_v44 (by decide)]
  have h := (group11 (V11 m c)).2
  rw [h48, h44, (V8_v35_v44 m c).1, (V8_v35_v44 m c).2] at h
  exact h

end Cert.KernelIdeal.Lines

end
-- ==== Proof.Choice.lean ====
/-
  The choice each token makes and the slots it fills, apart from any program: the largest of a row of gates and the largest
  of the rest, the two sorts that find them and that line up an expert's tokens, and the two weights.
-/
module

public import Idealize.ShloMosaic.Lib.SortPrefix
public import Idealize.ShloMosaic.Lib.ValueIdx
public import Idealize.ShloMosaic.PureOps.Ideal.Laws

@[expose] public section

noncomputable section

namespace Cert.Choice

open Idealize.ShloMosaic

/-! ## The largest entry -/

/-- Position `p` holds the largest entry of `g`, and no earlier position holds an equal one. -/
def Top {n : ℕ} (g : Fin n → EReal) (p : Fin n) : Prop := ∀ q, g q < g p ∨ (g q = g p ∧ p ≤ q)

theorem Top.unique {n : ℕ} {g : Fin n → EReal} {p q : Fin n} (hp : Top g p) (hq : Top g q) : p = q := by
  rcases hp q with h | ⟨h, hpq⟩
  · rcases hq p with h' | ⟨h', -⟩
    · exact absurd h (lt_asymm h')
    · exact absurd h (by rw [h']; exact lt_irrefl _)
  · rcases hq p with h' | ⟨-, hqp⟩
    · exact absurd h' (by rw [h]; exact lt_irrefl _)
    · exact le_antisymm hpq hqp

/-- The row of sixteen gates with position `p` taken out. -/
def without (g : Fin 16 → EReal) (p : Fin 16) : Fin 16 → EReal := fun q => if q = p then ⊥ else g q

open Classical in
/-- The expert of the largest gate. -/
def first (g : Fin 16 → EReal) : Fin 16 := if h : ∃ p, Top g p then h.choose else 0

/-- The expert of the largest gate but one. -/
def second (g : Fin 16 → EReal) : Fin 16 := first (without g (first g))

theorem Top.first_eq {g : Fin 16 → EReal} {p : Fin 16} (h : Top g p) : first g = p := by
  unfold first
  rw [dif_pos ⟨p, h⟩]
  exact Top.unique (Exists.choose_spec (⟨p, h⟩ : ∃ p, Top g p)) h

theorem top_first (g : Fin 16 → EReal) : Top g (first g) := by
  obtain ⟨v, -, hv⟩ := Finset.exists_max_image Finset.univ g ⟨0, Finset.mem_univ _⟩
  have hne : (Finset.univ.filter fun p => g p = g v).Nonempty := ⟨v, by simp⟩
  have hp := Finset.min'_mem _ hne
  rw [Finset.mem_filter] at hp
  have h : Top g ((Finset.univ.filter fun p => g p = g v).min' hne) := fun q => by
    rw [hp.2]
    rcases lt_or_eq_of_le (hv q (Finset.mem_univ _)) with h | h
    · exact Or.inl h
    · exact Or.inr ⟨h, Finset.min'_le _ _ (by simp [h])⟩
  rw [h.first_eq]; exact h

/-- Where no gate is minus infinity the two experts differ. -/
theorem second_ne_first {g : Fin 16 → EReal} (hg : ∀ q, g q ≠ ⊥) : second g ≠ first g := by
  intro h
  obtain ⟨q, hq⟩ : ∃ q : Fin 16, q ≠ first g := exists_ne _
  have ht := top_first (without g (first g)) q
  change without g (first g) q < without g (first g) (second g) ∨ (without g (first g) q = without g (first g) (second g) ∧ _) at ht
  rw [h] at ht
  unfold without at ht
  rw [if_neg hq, if_pos rfl] at ht
  rcases ht with ht | ⟨ht, -⟩
  · exact not_lt_bot ht
  · exact hg q ht

/-- A gate off the first expert, against the second expert's. -/
theorem le_second {g : Fin 16 → EReal} (hg : ∀ q, g q ≠ ⊥) {q : Fin 16} (hq : q ≠ first g) :
    g q < g (second g) ∨ (g q = g (second g) ∧ second g ≤ q) := by
  have ht := top_first (without g (first g)) q
  change without g (first g) q < without g (first g) (second g) ∨ (without g (first g) q = without g (first g) (second g) ∧ _) at ht
  unfold without at ht
  rw [if_neg hq, if_neg (second_ne_first hg)] at ht
  exact ht

/-! ## The arg-max of a list of pairs -/

/-- One step of the arg-max: the larger value, the lower index of two equal ones. -/
def pick (a b : EReal × BitVec 32) : EReal × BitVec 32 :=
  if b.1 < a.1 ∨ (a.1 = b.1 ∧ a.2.toInt < b.2.toInt) then a else b

theorem foldl_pick (l : List (EReal × BitVec 32)) (a : EReal × BitVec 32) :
    (l.foldl pick a = a ∨ l.foldl pick a ∈ l)
      ∧ ∀ p ∈ a :: l, p.1 < (l.foldl pick a).1 ∨ (p.1 = (l.foldl pick a).1 ∧ (l.foldl pick a).2.toInt ≤ p.2.toInt) := by
  induction l generalizing a with
  | nil =>
    refine ⟨Or.inl rfl, fun p hp => ?_⟩
    rw [List.mem_singleton.mp hp]
    exact Or.inr ⟨rfl, le_refl _⟩
  | cons b l ih =>
    obtain ⟨h1, h2⟩ := ih (pick a b)
    rw [List.foldl_cons]
    have hab : pick a b = a ∨ pick a b = b := by unfold pick; split <;> simp
    refine ⟨?_, fun p hp => ?_⟩
    · rcases h1 with h1 | h1
      · rw [h1]
        rcases hab with h | h
        · exact Or.inl h
        · exact Or.inr (by rw [h]; exact List.mem_cons_self)
      · exact Or.inr (List.mem_cons_of_mem _ h1)
    · have hpk : ∀ q, (q = a ∨ q = b) → q.1 < (pick a b).1 ∨ (q.1 = (pick a b).1 ∧ (pick a b).2.toInt ≤ q.2.toInt) := by
        rintro q (rfl | rfl)
        · unfold pick
          split
          · exact Or.inr ⟨rfl, le_refl _⟩
          · next h =>
            push Not at h
            rcases lt_or_eq_of_le h.1 with h' | h'
            · exact Or.inl h'
            · exact Or.inr ⟨h', h.2 h'⟩
        · unfold pick
          split
          · next h =>
            rcases h with h | h
            · exact Or.inl h
            · exact Or.inr ⟨h.1.symm, le_of_lt h.2⟩
          · exact Or.inr ⟨rfl, le_refl _⟩
      have hk := h2 (pick a b) List.mem_cons_self
      rcases List.mem_cons.mp hp with rfl | hp
      · rcases hpk _ (Or.inl rfl) with h | ⟨h, h'⟩ <;> rcases hk with k | ⟨k, k'⟩
        · exact Or.inl (h.trans k)
        · exact Or.inl (k ▸ h)
        · exact Or.inl (h ▸ k)
        · exact Or.inr ⟨h.trans k, k'.trans h'⟩
      rcases List.mem_cons.mp hp with rfl | hp
      · rcases hpk _ (Or.inr rfl) with h | ⟨h, h'⟩ <;> rcases hk with k | ⟨k, k'⟩
        · exact Or.inl (h.trans k)
        · exact Or.inl (k ▸ h)
        · exact Or.inl (h ▸ k)
        · exact Or.inr ⟨h.trans k, k'.trans h'⟩
      · exact h2 p (List.mem_cons_of_mem _ hp)

theorem toInt_small {n : ℕ} (h : n < 2 ^ 31) : (BitVec.ofNat 32 n).toInt = n := by
  rw [BitVec.toInt_eq_toNat_of_lt (by rw [BitVec.toNat_ofNat]; omega), BitVec.toNat_ofNat]
  omega

/-- The arg-max fold over the pairs of a row, in any order, from the pair of minus infinity: the first expert, if some gate is
    not minus infinity. -/
theorem foldl_pick_row (g : Fin 16 → EReal) (l : List (EReal × BitVec 32))
    (hl : ∀ p, p ∈ l ↔ ∃ e : Fin 16, p = (g e, BitVec.ofNat 32 e.val)) (z : BitVec 32) (hg : ∃ e, g e ≠ ⊥) :
    l.foldl pick (⊥, z) = (g (first g), BitVec.ofNat 32 (first g).val) := by
  obtain ⟨h1, h2⟩ := foldl_pick l (⊥, z)
  have h1' : l.foldl pick (⊥, z) ∈ l := by
    rcases h1 with h1 | h1
    · obtain ⟨e, he⟩ := hg
      have := h2 _ (List.mem_cons_of_mem _ ((hl _).mpr ⟨e, rfl⟩))
      rw [h1] at this
      rcases this with h | ⟨h, -⟩
      · exact absurd h not_lt_bot
      · exact absurd h he
    · exact h1
  obtain ⟨p, hp⟩ := (hl _).mp h1'
  have ht : Top g p := fun q => by
    have := h2 _ (List.mem_cons_of_mem _ ((hl _).mpr ⟨q, rfl⟩))
    rw [hp] at this
    rcases this with h | ⟨h, h'⟩
    · exact Or.inl h
    · refine Or.inr ⟨h, ?_⟩
      change (BitVec.ofNat 32 p.val).toInt ≤ (BitVec.ofNat 32 q.val).toInt at h'
      rw [toInt_small (by omega), toInt_small (by omega)] at h'
      exact Fin.le_def.mpr (by omega)
  rw [hp, ht.first_eq]

/-! ## The stable sorts -/

/-- A stable sort of the positions by a key is the sort by the key and then the position: an entry is only ever set against
    later ones. -/
theorem stableSort_eq_lex {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_eq_lex {n : ℕ} (R R' : Fin n → Fin n → Bool) (h : ∀ a b, a < b → R b a = R' b a) :
    sortedFrom R = sortedFrom R' := by
  funext k
  unfold sortedFrom
  rw [List.get_of_eq (show sortPositions n R = sortPositions n R' from
    stableSort_eq_lex R R' h _ (List.pairwise_lt_finRange n))]
  rfl

/-- The first two positions of a row sorted by descending gate. -/
theorem sortedFrom_gates {g : Fin 16 → EReal} (hg : ∀ q, g q ≠ ⊥) (R : Fin 16 → Fin 16 → Bool)
    (hR : ∀ a b, R a b = decide (-g a < -g b)) : sortedFrom R 0 = first g ∧ sortedFrom R 1 = second g := by
  have hlex : sortedFrom R = sortedFrom (fun k k' : Fin 16 => (fun a b : EReal => decide (a < b)) (-g k) (-g k')
      || (decide (-g k = -g k') && decide (k < k'))) :=
    sortedFrom_eq_lex _ _ fun a b hab => by
      rw [hR, decide_eq_false (not_lt.mpr (le_of_lt hab)), Bool.and_false, Bool.or_false]
  have hB := StrictTotalBefore.of_key_then_position (n := 16) (fun a b : EReal => decide (a < b)) (fun k => -g k)
    (fun a => by simp) (fun a b c hab hbc => by simp only [decide_eq_true_eq] at *; exact lt_trans hab hbc)
    (fun a b => by simp only [decide_eq_true_eq]; exact lt_trichotomy a b)
  have key := hB.sortedFrom_eq_of_prefix (k := 2) (by decide) ![first g, second g] ?_ ?_ ?_
  · rw [hlex]
    exact ⟨key 0, key 1⟩
  · intro i j hij
    have hne := second_ne_first hg
    fin_cases i <;> fin_cases j <;> simp_all [eq_comm]
  · intro i j hij
    obtain ⟨rfl, rfl⟩ : i = 0 ∧ j = 1 := by omega
    simp only [Bool.or_eq_false_iff, Bool.and_eq_false_iff, decide_eq_false_iff_not, Matrix.cons_val_zero, Matrix.cons_val_one,
      EReal.neg_lt_neg_iff, neg_inj]
    rcases top_first g (second g) with h | ⟨h, h'⟩
    · exact ⟨not_lt.mpr h.le, Or.inl h.ne⟩
    · exact ⟨by rw [h]; exact lt_irrefl _, Or.inr (decide_eq_false (not_lt.mpr h'))⟩
  · intro i p hp
    have h0 : first g ≠ p := hp 0
    have h1 : second g ≠ p := hp 1
    simp only [Bool.or_eq_false_iff, Bool.and_eq_false_iff, decide_eq_false_iff_not, EReal.neg_lt_neg_iff, neg_inj]
    have hi : (![first g, second g] : Fin 2 → Fin 16) i = first g ∨ (![first g, second g] : Fin 2 → Fin 16) i = second g := by
      fin_cases i <;> simp
    rcases hi with e | e <;> rw [e]
    · rcases top_first g p with h | ⟨h, h'⟩
      · exact ⟨not_lt.mpr h.le, Or.inl h.ne⟩
      · exact ⟨by rw [h]; exact lt_irrefl _, Or.inr (not_lt.mpr h')⟩
    · rcases le_second hg (Ne.symm h0) with h | ⟨h, h'⟩
      · exact ⟨not_lt.mpr h.le, Or.inl h.ne⟩
      · exact ⟨by rw [h]; exact lt_irrefl _, Or.inr (not_lt.mpr h')⟩

/-- Below `n` there is an `i`-th place where `P` holds, for `i` below the number of them. -/
theorem exists_place (P : ℕ → Prop) [DecidablePred P] (n i : ℕ) (hi : i < Nat.count P n) : ∃ p, p < n ∧ P p ∧ Nat.count P p = i := by
  induction n with
  | zero => simp at hi
  | succ n ih =>
    rw [Nat.count_succ] at hi
    by_cases h : i < Nat.count P n
    · obtain ⟨p, hp, h'⟩ := ih h
      exact ⟨p, by omega, h'⟩
    · by_cases hn : P n
      · rw [if_pos hn] at hi
        exact ⟨n, by omega, hn, by omega⟩
      · rw [if_neg hn] at hi
        omega

/-- Two places where `P` holds with as many before each are one. -/
theorem place_inj (P : ℕ → Prop) [DecidablePred P] {p q : ℕ} (hp : P p) (hq : P q) (h : Nat.count P p = Nat.count P q) : p = q := by
  rcases lt_trichotomy p q with hlt | rfl | hlt
  · exact absurd h (Nat.count_strict_mono hp hlt).ne
  · rfl
  · exact absurd h (Nat.count_strict_mono hq hlt).ne'

/-- The positions sorted by whether `P` fails: the `s`-th, for `s` below the number of those `P` holds of, is the `s`-th of
    them. -/
theorem sortedFrom_mask {n : ℕ} (P : ℕ → Prop) [DecidablePred P] (key : Fin n → BitVec 1)
    (hkey : ∀ k, key k = if P k.val then 0#1 else 1#1) (R : Fin n → Fin n → Bool) (hR : ∀ a b, R a b = (key a).ult (key b))
    (s : Fin n) (hs : s.val < Nat.count P n) : P (sortedFrom R s).val ∧ Nat.count P (sortedFrom R s).val = s.val := by
  have hlex : sortedFrom R = sortedFrom (fun k k' : Fin n => (fun a b : BitVec 1 => a.ult b) (key k) (key k')
      || (decide (key k = key k') && decide (k < k'))) :=
    sortedFrom_eq_lex _ _ fun a b hab => by
      rw [hR, decide_eq_false (not_lt.mpr (le_of_lt hab)), Bool.and_false, Bool.or_false]
  have hB := StrictTotalBefore.of_key_then_position (n := n) (fun a b : BitVec 1 => a.ult b) key
    (by decide) (by decide) (by decide)
  have hk : Nat.count P n ≤ n := Nat.count_le _
  choose σ hlt hPn hcn using fun i : Fin (Nat.count P n) => exists_place P n i.val i.isLt
  have key' := hB.sortedFrom_eq_of_prefix (k := Nat.count P n) hk (fun i => ⟨σ i, hlt i⟩) ?_ ?_ ?_ ⟨s.val, hs⟩
  · have e : sortedFrom R s = ⟨σ ⟨s.val, hs⟩, hlt _⟩ := by rw [hlex]; exact key'
    rw [e]
    exact ⟨hPn ⟨s.val, hs⟩, hcn ⟨s.val, hs⟩⟩
  · intro i j hij
    have h : σ i = σ j := congrArg Fin.val hij
    exact Fin.ext (by rw [← hcn i, ← hcn j, h])
  · intro i j hij
    have h1 : ¬ (σ j < σ i) := fun h => by
      have := Nat.count_monotone P h.le
      rw [hcn, hcn] at this
      exact absurd hij (not_lt.mpr (Fin.le_def.mpr this))
    simp only [hkey, if_pos (hPn i), if_pos (hPn j)]
    simp [h1]
  · intro i p hp
    have hPp : ¬ P p.val := fun h => by
      have hc : Nat.count P p.val < Nat.count P n := Nat.count_strict_mono h p.isLt
      exact hp ⟨Nat.count P p.val, hc⟩ (Fin.ext (place_inj P (hPn _) h (hcn _)))
    simp only [hkey, if_pos (hPn i), if_neg hPp]
    rw [show ((1#1 : BitVec 1).ult 0#1) = false from by decide, show decide ((1#1 : BitVec 1) = 0#1) = false from by decide]
    rfl

end Cert.Choice

end
-- ==== Proof.Spec.lean ====
/-
  What the routing computes, said once for both programs: the two experts of each token and their weights, which tokens an
  expert takes, and which token fills which of its slots.
-/
module

public import proofs.«01_k».proof.Proof.Choice
public import Idealize.ShloMosaic.Lib.Pointwise
public import Mathlib.Data.Nat.Count

@[expose] public section

noncomputable section

namespace Cert.Spec

open Idealize.ShloMosaic Cert.Choice
open scoped Classical

/-- The rows of the gates. -/
def row (g : FVec Ideal ⟨2, ![1024, 16]⟩ .f32) (t : Fin 1024) : Fin 16 → EReal := fun e => g (ix2 t e)

/-- Every gate is a real number. -/
def Real (G : Fin 1024 → Fin 16 → EReal) : Prop := ∀ t e, ∃ a : ℝ, G t e = (a : EReal)

theorem Real.ne_bot {G : Fin 1024 → Fin 16 → EReal} (h : Real G) (t : Fin 1024) (e : Fin 16) : G t e ≠ ⊥ := by
  obtain ⟨a, ha⟩ := h t e
  rw [ha]
  exact EReal.coe_ne_bot a

/-- A token's two experts. -/
def choice (g : Fin 16 → EReal) (j : Fin 2) : Fin 16 := if j = 0 then first g else second g

/-- The weight of a token's first expert; the second has what is left of one. -/
def share (g : Fin 16 → EReal) : EReal := Ideal.div 1 (1 + Ideal.exp (g (second g) - g (first g)))

/-- The weight a token gives an expert. -/
def weight (g : Fin 16 → EReal) (e : Fin 16) : EReal :=
  (if first g = e then share g else 0) + (if second g = e then 1 - share g else 0)

/-- Expert `e` takes token `t`. -/
def Takes (G : Fin 1024 → Fin 16 → EReal) (e : Fin 16) (t : ℕ) : Prop :=
  ∃ h : t < 1024, first (G ⟨t, h⟩) = e ∨ second (G ⟨t, h⟩) = e

theorem takes_val (G : Fin 1024 → Fin 16 → EReal) (e : Fin 16) (t : Fin 1024) :
    Takes G e t.val ↔ (first (G t) = e ∨ second (G t) = e) := ⟨fun ⟨_, h⟩ => h, fun h => ⟨t.isLt, h⟩⟩

/-- Token `t` fills slot `s` of expert `e`: it is taken, after `s` others. -/
def Fills (G : Fin 1024 → Fin 16 → EReal) (e : Fin 16) (s t : ℕ) : Prop := Takes G e t ∧ Nat.count (Takes G e) t = s

theorem Fills.unique {G : Fin 1024 → Fin 16 → EReal} {e : Fin 16} {s t u : ℕ} (h : Fills G e s t) (h' : Fills G e s u) : t = u :=
  place_inj (Takes G e) h.1 h'.1 (h.2.trans h'.2.symm)

theorem Fills.lt {G : Fin 1024 → Fin 16 → EReal} {e : Fin 16} {s t : ℕ} (h : Fills G e s t) : s < Nat.count (Takes G e) 1024 := by
  have h1 : Nat.count (Takes G e) (t + 1) ≤ Nat.count (Takes G e) 1024 := Nat.count_monotone _ h.1.1
  rw [Nat.count_succ, if_pos h.1, h.2] at h1
  omega

/-- A sum over the tokens that picks the one in a slot. -/
theorem sum_fills {G : Fin 1024 → Fin 16 → EReal} {e : Fin 16} {s : ℕ} (p : Fin 1024) (hp : Fills G e s p.val) (f : Fin 1024 → EReal) :
    ∑ t : Fin 1024, (if Fills G e s t.val then (1 : EReal) else 0) * f t = f p := by
  rw [Finset.sum_eq_single p, if_pos hp, one_mul]
  · intro q _ hq
    rw [if_neg fun h => hq (Fin.ext (h.unique hp)), zero_mul]
  · intro h
    exact absurd (Finset.mem_univ p) h

theorem sum_empty {G : Fin 1024 → Fin 16 → EReal} {e : Fin 16} {s : ℕ} (hs : ¬ s < Nat.count (Takes G e) 1024) (f : Fin 1024 → EReal) :
    ∑ t : Fin 1024, (if Fills G e s t.val then (1 : EReal) else 0) * f t = 0 := by
  refine Finset.sum_eq_zero fun t _ => ?_
  rw [if_neg fun h => hs h.lt, zero_mul]

/-! ## Words -/

theorem ofNat_eq_iff {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl
    rfl

theorem cmpi_eq (a b : BitVec 32) : IntOp.cmpi .eq a b = if a = b then 1#1 else 0#1 := by
  by_cases h : a = b
  · simp [IntOp.cmpi, h]
  · rw [if_neg h]
    show BitVec.ofBool (a == b) = 0#1
    rw [beq_eq_false_iff_ne.mpr h]
    rfl

theorem cmpi_ofNat {a b : ℕ} (ha : a < 2 ^ 32) (hb : b < 2 ^ 32) :
    IntOp.cmpi .eq (BitVec.ofNat 32 a) (BitVec.ofNat 32 b) = if a = b then 1#1 else 0#1 := by
  rw [cmpi_eq]
  exact if_congr (ofNat_eq_iff ha hb) rfl rfl

theorem uitofp_bit (p : Prop) [Decidable p] : (FloatOps.uitofp FTy.f32 (if p then 1#1 else 0#1) : Ideal .f32) = if p then (1 : EReal) else 0 := by
  by_cases h : p
  · rw [if_pos h, if_pos h]
    show (((1#1 : BitVec 1).toNat : ℝ) : EReal) = 1
    simp
  · rw [if_neg h, if_neg h]
    show (((0#1 : BitVec 1).toNat : ℝ) : EReal) = 0
    simp

theorem ofBits_neg_inf : Ideal.ofBits FTy.f32 0xFF800000#32 = ⊥ := by simp [Ideal.ofBits, Ideal.ieee]

theorem ofBits_one : Ideal.ofBits FTy.f32 0x3F800000#32 = 1 := by
  simp [Ideal.ofBits, Ideal.ieee, -EReal.coe_mul]; norm_num

end Cert.Spec

end
-- ==== Proof.At.lean ====
/-
  The kernel's host lines read at an index: the slot matrix and the combine weights are what the routing says.
-/
module

public import proofs.«01_k».proof.Proof.Lines
public import proofs.«01_k».proof.Proof.Spec
public import Idealize.ShloMosaic.Lib.Routing.OpsOne

@[expose] public section

set_option maxRecDepth 16384

noncomputable section

namespace Cert.KernelIdeal.At

open Cert.KernelIdeal Cert.KernelIdeal.Gen Cert.KernelIdeal.Lines Cert.Choice Cert.Spec
open Idealize.ShloMosaic
open scoped Classical

theorem gates_at (x : FVec Ideal S1024x1024 .f32) (r : FVec Ideal S1024x16 .f32) (t : Fin 1024) (e : Fin 16) :
    gates x r (ix2 t e) = ∑ d : Fin 1024, x (ix2 t d) * r (ix2 d e) := by
  pointwise [gates]

theorem best_at (g : FVec Ideal S1024x16 .f32) (t : Fin 1024) : best g (ix1 t) = row g t (first (row g t)) := by
  pointwise [best]
  refine le_antisymm ((Finset.fold_max_le _).mpr ⟨?_, fun e _ => ?_⟩) ((Finset.le_fold_max _).mpr (Or.inr ⟨_, Finset.mem_univ _, le_rfl⟩))
  · exact ofBits_neg_inf.le.trans bot_le
  · rcases top_first (row g t) e with h | h
    · exact h.le
    · exact h.1.le

theorem reducer_eq : reducer_argmax_f32_i32 (F := Ideal) = pick := by
  funext a b
  obtain ⟨a1, a2⟩ := a
  obtain ⟨b1, b2⟩ := b
  simp only [reducer_argmax_f32_i32, pick, Ideal.cmpf_def, Ideal.cmp, IntOp.cmpi, IntOp.ori, IntOp.andi, Scalar.select]
  by_cases h1 : (b1 : EReal) < a1
  · simp [h1, h1.ne']
  · by_cases h2 : (a1 : EReal) = b1
    · by_cases h3 : a2.slt b2 = true
      · have h4 : a2.toInt < b2.toInt := by simpa [BitVec.slt] using h3
        simp [h1, h2, h3, h4]
      · have h4 : ¬ a2.toInt < b2.toInt := by simpa [BitVec.slt] using h3
        simp [h1, h2, h3, h4]
    · simp [h1, h2]

theorem drop_iff (i : S1024x16.Idx) (t : Fin 1024) : reducesTo_S1024x16_S1024_d1.drop i = ix1 t ↔ i 0 = t := by
  have h : (reducesTo_S1024x16_S1024_d1.drop i 0 : ℕ) = i 0 :=
    Shape.ReducesTo.drop_apply_val_of_eq reducesTo_S1024x16_S1024_d1 i 0 0
  constructor
  · intro he
    rw [he] at h
    exact Fin.ext h.symm
  · intro he
    funext a
    match a with
    | ⟨0, _⟩ => exact Fin.ext (h.trans (congrArg Fin.val he))

theorem fold_row (g : Fin 16 → EReal) (l : List (EReal × BitVec 32)) (z0 : EReal) (z : BitVec 32) (h0 : z0 = ⊥)
    (hl : ∀ p, p ∈ l ↔ ∃ e : Fin 16, p = (g e, BitVec.ofNat 32 e.val)) (hg : ∃ e, g e ≠ ⊥) :
    (l.foldl pick (z0, z)).2 = BitVec.ofNat 32 (first g).val := by
  subst h0
  rw [foldl_pick_row g l hl z hg]

theorem bestAt_at (g : FVec Ideal S1024x16 .f32) (t : Fin 1024) (hg : ∃ e, row g t e ≠ ⊥) :
    bestAt g (ix1 t) = BitVec.ofNat 32 (first (row g t)).val := by
  unfold bestAt
  rw [Ideal.argReduce_eq_reduce2, Host.reduce2_eq_foldl_fiber, reducer_eq]
  refine fold_row (row g t) _ _ _ ofBits_neg_inf (fun p => ?_) hg
  · unfold Host.argReduceFiber
    simp only [List.mem_map, List.mem_filter, List.mem_finRange, true_and, decide_eq_true_eq, drop_iff]
    constructor
    · rintro ⟨n, hn, rfl⟩
      refine ⟨S1024x16.rowMajor.symm n 1, ?_⟩
      have : S1024x16.rowMajor.symm n = ix2 t (S1024x16.rowMajor.symm n 1) := by
        rw [← hn]
        exact ValueIdx.eq_ix2 _
      rw [this]
      rfl
    · rintro ⟨e, rfl⟩
      refine ⟨S1024x16.rowMajor (ix2 t e), ?_, ?_⟩
      · rw [Equiv.symm_apply_apply]
        rfl
      · rw [Equiv.symm_apply_apply]
        rfl

theorem rest_row (g : FVec Ideal S1024x16 .f32) (k : IVec S1024 32) (t : Fin 1024) (p : Fin 16) (hk : k (ix1 t) = BitVec.ofNat 32 p.val) :
    row (rest g k) t = without (row g t) p := by
  funext e
  show rest g k (ix2 t e) = _
  pointwise [rest]
  rw [hk, cmpi_ofNat (by omega) (by omega), ofBits_neg_inf]
  unfold without
  by_cases h : e = p
  · subst h
    simp [Scalar.select]
  · rw [if_neg h, if_neg fun h' => h (Fin.ext h'.symm)]
    rfl

theorem axis_at (c : Dev nD) : axisWord c ix0 = BitVec.ofNat 32 (c.val % 4) := by
  pointwise [axisWord]
  revert c
  decide

/-- The number of a device's expert among all. -/
def expert (c : Dev nD) (e : Fin 4) : Fin 16 := ⟨c.val % 4 * 4 + e.val, by omega⟩

theorem mine_at (c : Dev nD) (k : IVec S1024 32) (t : Fin 1024) (e : Fin 4) (p : Fin 16) (hk : k (ix1 t) = BitVec.ofNat 32 p.val) :
    mine (axisWord c) k (ix2 t e) = if p = expert c e then 1#1 else 0#1 := by
  have h : IntOp.addi (IntOp.muli (axisWord c ix0) 4#32) (BitVec.ofNat 32 e.val) = BitVec.ofNat 32 (expert c e).val := by
    rw [axis_at]
    show BitVec.ofNat 32 (c.val % 4) * BitVec.ofNat 32 4 + BitVec.ofNat 32 e.val = _
    rw [← BitVec.ofNat_mul, ← BitVec.ofNat_add]
    rfl
  pointwise [mine]
  rw [h, hk, cmpi_ofNat (by omega) (by omega)]
  exact if_congr Fin.ext_iff.symm rfl rfl

theorem masked_at (b : IVec S1024x4 1) (w : FVec Ideal S1024 .f32) (t : Fin 1024) (e : Fin 4) (P : Prop) [Decidable P]
    (hb : b (ix2 t e) = if P then 1#1 else 0#1) : masked b w (ix2 t e) = if P then w (ix1 t) else 0 := by
  pointwise [masked]
  rw [hb, uitofp_bit]
  by_cases h : P
  · rw [if_pos h, if_pos h, one_mul]
  · rw [if_neg h, if_neg h, zero_mul]

theorem share_at (a b : FVec Ideal S1024 .f32) (t : Fin 1024) : Lines.share a b (ix1 t) = Ideal.div 1 (1 + Ideal.exp (b (ix1 t) - a (ix1 t))) := by
  pointwise [Lines.share]

theorem other_at (a : FVec Ideal S1024 .f32) (t : Fin 1024) : other a (ix1 t) = 1 - a (ix1 t) := by
  pointwise [other]

section routed
variable (g : FVec Ideal S1024x16 .f32) (hg : Real (row g))
include hg

theorem k1_at (t : Fin 1024) : k1 g (ix1 t) = BitVec.ofNat 32 (first (row g t)).val :=
  bestAt_at g t ⟨0, hg.ne_bot t 0⟩

theorem rest_k1 (t : Fin 1024) : row (rest g (k1 g)) t = without (row g t) (first (row g t)) :=
  rest_row g _ t _ (k1_at g hg t)

theorem second_gate (t : Fin 1024) : row (rest g (k1 g)) t (first (row (rest g (k1 g)) t)) = row g t (second (row g t)) := by
  rw [rest_k1 g hg]
  show without (row g t) (first (row g t)) (second (row g t)) = _
  unfold without
  rw [if_neg (second_ne_first (hg.ne_bot t))]

theorem k2_at (t : Fin 1024) : k2 g (ix1 t) = BitVec.ofNat 32 (second (row g t)).val := by
  unfold k2
  rw [bestAt_at _ t, rest_k1 g hg]
  · rfl
  · refine ⟨second (row g t), ?_⟩
    rw [rest_k1 g hg]
    unfold without
    rw [if_neg (second_ne_first (hg.ne_bot t))]
    exact hg.ne_bot t _

theorem taken_at (c : Dev nD) (t : Fin 1024) (e : Fin 4) :
    taken (axisWord c) g (ix2 t e) = if Takes (row g) (expert c e) t.val then 1#1 else 0#1 := by
  show IntOp.ori _ _ = _
  rw [mine_at c _ t e _ (k1_at g hg t), mine_at c _ t e _ (k2_at g hg t), takes_val]
  by_cases h1 : first (row g t) = expert c e <;> by_cases h2 : second (row g t) = expert c e <;> simp [h1, h2, IntOp.ori]

theorem weights_at (c : Dev nD) (t : Fin 1024) (e : Fin 4) :
    weights (axisWord c) g (ix2 t e) = weight (row g t) (expert c e) := by
  have hs : Lines.share (best g) (best (rest g (k1 g))) (ix1 t) = Spec.share (row g t) := by
    rw [share_at, best_at, best_at, second_gate g hg]
    rfl
  show masked _ _ (ix2 t e) + masked _ _ (ix2 t e) = _
  rw [masked_at _ _ t e _ (mine_at c _ t e _ (k1_at g hg t)), masked_at _ _ t e _ (mine_at c _ t e _ (k2_at g hg t)), other_at, hs]
  rfl

theorem upTo_at (c : Dev nD) (t : Fin 1024) (e : Fin 4) :
    upTo (taken (axisWord c) g) (ix2 t e) = BitVec.ofNat 32 (Nat.count (Takes (row g) (expert c e)) (t.val + 1)) := by
  unfold upTo
  refine (Routing.cumsum_rows (R := 1024) (Rm1 := 1023) (C := 4) rfl _
    (fun i e' => if ∃ h : e' < 4, Takes (row g) (expert c ⟨e', h⟩) i then 1 else 0) (fun i e' => ?_) _ rfl _ _ t e).trans ?_
  · show BitVec.setWidth 32 (taken (axisWord c) g (ix2 i e')) = _
    rw [taken_at g hg]
    by_cases h : Takes (row g) (expert c e') i.val
    · rw [if_pos h, if_pos ⟨e'.isLt, h⟩]
      rfl
    · rw [if_neg h, if_neg fun h' => h h'.2]
      rfl
  · rw [Routing.sum_map_ite]
    have : (fun i => ∃ h : e.val < 4, Takes (row g) (expert c ⟨e.val, h⟩) i) = Takes (row g) (expert c e) := by
      funext i
      exact propext ⟨fun h => h.2, fun h => ⟨e.isLt, h⟩⟩
    congr 1
    simp only [this]

/-- A slot number's test. -/
theorem slot_at (c : Dev nD) (t : Fin 1024) (e : Fin 4) (s : Fin 192) :
    IntOp.cmpi .eq (slot (taken (axisWord c) g) (ix2 t e)) (BitVec.ofNat 32 s.val)
      = if Fills (row g) (expert c e) s.val t.val then 1#1 else 0#1 := by
  have hc : Nat.count (Takes (row g) (expert c e)) t.val ≤ t.val := Nat.count_le _
  pointwise [slot]
  rw [taken_at g hg, upTo_at g hg]
  by_cases h : Takes (row g) (expert c e) t.val
  · rw [if_pos h, Nat.count_succ, if_pos h]
    have : Scalar.select 1#1 (IntOp.subi (BitVec.ofNat 32 (Nat.count (Takes (row g) (expert c e)) t.val + 1)) 1#32) 4294967295#32
        = BitVec.ofNat 32 (Nat.count (Takes (row g) (expert c e)) t.val) := by
      show BitVec.ofNat 32 (Nat.count (Takes (row g) (expert c e)) t.val + 1) - BitVec.ofNat 32 1 = _
      rw [BitVec.ofNat_add, BitVec.add_sub_cancel]
    rw [this, cmpi_ofNat (by omega) (by omega)]
    exact if_congr ⟨fun h' => ⟨h, h'⟩, fun h' => h'.2⟩ rfl rfl
  · rw [if_neg h, if_neg fun h' => h h'.1]
    show IntOp.cmpi .eq (BitVec.ofNat 32 4294967295) _ = _
    rw [cmpi_ofNat (by omega) (by omega), if_neg (by omega)]

theorem hot_at (c : Dev nD) (e : Fin 4) (s : Fin 192) (t : Fin 1024) :
    hot (F := Ideal) (slot (taken (axisWord c) g)) (ix3 e s t) = if Fills (row g) (expert c e) s.val t.val then (1 : EReal) else 0 := by
  pointwise [hot]
  rw [slot_at g hg, uitofp_bit]

theorem combine_at (c : Dev nD) (e : Fin 4) (s : Fin 192) (t : Fin 1024) :
    combine (slot (taken (axisWord c) g)) (weights (axisWord c) g) (ix3 t e s)
      = if Fills (row g) (expert c e) s.val t.val then weight (row g t) (expert c e) else 0 := by
  pointwise [combine]
  rw [slot_at g hg, uitofp_bit, weights_at g hg]
  by_cases h : Fills (row g) (expert c e) s.val t.val
  · rw [if_pos h, if_pos h, one_mul]
  · rw [if_neg h, if_neg h, zero_mul]

end routed

end Cert.KernelIdeal.At

end
-- ==== Proof.Prefix.lean ====
/-
  A host prefix that reads the device it runs on, up to the one kernel region: the lines of host operations are a function
  of the device, and the region finds each device's buffers at what that device's own lines leave.
-/
module

public import Idealize.ShloMosaic.Lib.Pipeline.Frame

@[expose] public section

noncomputable section

namespace Cert.Prefix

open Idealize.ShloMosaic Idealize.ShloMosaic.Pipeline Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} (cfgs : P → Cfg sig Λ₀) (p : P) (defs₀ : Defs nD τ sig Val Λ₀) (𝒱₀ : Variants)

set_option backward.isDefEq.respectTransparency.types false in
/-- If on every device `c` the program is the host lines `opss c` followed by the region, then the region is entered with the
    buffers at what those lines leave of the launch contents. -/
theorem to_region (m : (ℓ : Loc nD τ sig) → Buf Val ℓ)
    (main : Dev nD → Prog (TpuEff nD τ sig Val (Sig Λ₀ P fun q => ((cfgs q).toPCfg (Val := Val)).Adm) .tc) PUnit)
    (opss : Dev nD → List (List (HloOp τ sig Val)))
    (hsub : ∀ c, ∀ ops ∈ opss c, ∀ op ∈ ops, op.bufs ⊆ StableHlo.tcRefs τ sig)
    (hfresh : ∀ c, ∀ ops ∈ opss c, ∀ op ∈ ops, op.fresh = ∅)
    (W : Dev nD → Valuation τ sig Val) (hW : ∀ c, StableHlo.after (opss c).flatten (fun b => m (c, b)) = W c)
    (h : ∀ c, main c = chain ((opss c).map StableHlo.seq ++ [Prog.lift (.customCall (entry p) ())])) :
    HMain (Ix := Ix) (Name := Name) (U := U) (Lvl := Lvl) cfgs p defs₀ 𝒱₀ m main (fun c b => W c b) := by
  intro c Q
  have hl : unscopedBufs c (fun b => W c b) = StableHlo.held (c.tc : Thread nD τ) (ucRefs τ sig) (W c) :=
    unscopedBufs_held (Ix := Ix) (Name := Name) (U := U) (Lvl := Lvl) c (W c)
  have h0 : unscopedBufs c (fun b => m ((c.tc : Thread nD τ).loc b))
      = StableHlo.held (c.tc : Thread nD τ) (ucRefs τ sig) (fun b => m (c, b)) :=
    unscopedBufs_held (Ix := Ix) (Name := Name) (U := U) (Lvl := Lvl) c (fun b => m (c, b))
  rw [h c, hl, h0, ← hW c]
  iintro ⟨Hk, Hb⟩
  iapply (wp_seqs _ defs₀ 𝒱₀ c (ucRefs τ sig) _ (opss c) (fun ops ho op hop => sub_ucRefs op (hsub c ops ho op hop)) (hfresh c) _) $$ Hb
  iintro Hb
  simp only [chain_cons, chain_nil]
  iapply Hk; iexact Hb

end Cert.Prefix

end
-- ==== Proof.Run.lean ====
/-
  The run of the feed-forward call behind its host routing, on every device of the mesh: the host lines leave the slots and
  the combine weights, the call's body takes a block of each operand to a block of the result, and the program ends with
  the arguments as they were, the weights as the host lines left them and the rows as the pipeline computes them.
-/
module

public import proofs.«01_k».proof.Proof.Gen.KernelIdeal.Skeleton
public import proofs.«01_k».proof.Proof.Gen.KernelIdeal.Regions
public import proofs.«01_k».proof.Proof.Gen.KernelIdeal.Points
public import proofs.«01_k».proof.Proof.Prefix
public import Idealize.ShloMosaic.Lib.Pipeline.FrameBody
public import Idealize.ShloMosaic.Lib.Claim
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The host lines device `c` runs. -/
abbrev lines (c : Dev nD) : List (List (HloOp τ sig (Elt F))) :=
  [hostOps0 c, hostOps0_1, hostOps0_2, hostOps0_3, hostOps0_4, hostOps0_5, hostOps0_6, hostOps0_7, hostOps0_8, hostOps0_9,
    hostOps0_10, hostOps0_11]

theorem lines_sub (c : Dev nD) : ∀ ops ∈ lines (F := F) c, ∀ op ∈ ops, op.bufs ⊆ StableHlo.tcRefs τ sig := by
  have h : (lines (F := F) c).Forall fun ops => ops.Forall fun op => op.bufs ⊆ StableHlo.tcRefs τ sig :=
    ⟨hostOps0_sub c, hostOps0_1_sub, hostOps0_2_sub, hostOps0_3_sub, hostOps0_4_sub, hostOps0_5_sub, hostOps0_6_sub,
      hostOps0_7_sub, hostOps0_8_sub, hostOps0_9_sub, hostOps0_10_sub, hostOps0_11_sub⟩
  exact fun ops ho => List.forall_iff_forall_mem.mp (List.forall_iff_forall_mem.mp h ops ho)

theorem lines_fresh (c : Dev nD) : ∀ ops ∈ lines (F := F) c, ∀ op ∈ ops, op.fresh = ∅ := by
  have h : (lines (F := F) c).Forall fun ops => ops.Forall fun op => op.fresh = ∅ :=
    ⟨hostOps0_fresh c, hostOps0_1_fresh, hostOps0_2_fresh, hostOps0_3_fresh, hostOps0_4_fresh, hostOps0_5_fresh,
      hostOps0_6_fresh, hostOps0_7_fresh, hostOps0_8_fresh, hostOps0_9_fresh, hostOps0_10_fresh, hostOps0_11_fresh⟩
  exact fun ops ho => List.forall_iff_forall_mem.mp (List.forall_iff_forall_mem.mp h ops ho)

/-- What the region finds in device `c`'s buffer `b`. -/
@[irreducible] def V (c : Dev nD) (b : Ref sig .tc) : Buf (Elt F) ((c : Thread nD τ).loc b) := V12 m c b

theorem V_eq (c : Dev nD) (b : Ref sig .tc) : V m c b = V12 m c b := by unfold V; rfl

theorem lines_after (c : Dev nD) : StableHlo.after (lines (F := F) c).flatten (fun b => m (c, b)) = V12 m c := by
  simp only [lines, List.flatten_cons, List.flatten_nil, StableHlo.after_append, List.append_nil]

theorem hmain : Pipeline.HMain (Ix := Unit) (Name := ℕ) (U := UR sig nD τ) (Lvl := ℕ) cfgs 0 defs₀ Variants.none m (main (F := F)) (V m) := by
  rw [show V m = fun (c : Dev nD) (b : Ref sig .tc) => (V12 m c b : Buf (Elt F) ((c : Thread nD τ).loc b)) from
    funext fun c => funext fun b => V_eq m c b]
  exact Cert.Prefix.to_region cfgs 0 defs₀ Variants.none m main lines lines_sub lines_fresh (V12 m) (lines_after m) main_chain

/-! ## The body -/

/-- Window `w`'s block at point `t`, as the region finds its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a block of the result, as the body stores it. -/
abbrev whole : Rect S1x192x1024 := Rect.unit (s := S1x192x1024) ![0, 0, 0] S1x192x1024.size inb_S1x192x1024_S1x192x1024_0_0_0

/-- The result's buffer after the body, from the operands' blocks. -/
def rows (x0 : Vec F S1x192x1024 .f32) (x1 : Vec F S1024x1024 .f32) (x2 : Vec F S1x1024x2048 .f32) (x3 : Vec F S1x2048x1024 .f32) :
    Vec F S1x192x1024 .f32 :=
  View.canon [⟨whole, k0_pay1
    (View.ld x0 (Rect.unit (s := S1x192x1024) ![0, 0, 0] S1x192x1024.size inb_S1x192x1024_S1x192x1024_0_0_0))
    (View.ld x1 (Rect.unit (s := S1024x1024) ![0, 0] S1024x1024.size inb_S1024x1024_S1024x1024_0_0))
    (View.ld x2 (Rect.unit (s := S1x1024x2048) ![0, 0, 0] S1x1024x2048.size inb_S1x1024x2048_S1x1024x2048_0_0_0))
    (View.ld x3 (Rect.unit (s := S1x2048x1024) ![0, 0, 0] S1x2048x1024.size inb_S1x2048x1024_S1x2048x1024_0_0_0))⟩]

theorem whole_covers (p : Vec F S1x192x1024 .f32) (y : S1x192x1024.Idx) :
    ∃ pc ∈ ([⟨whole, p⟩] : List (View.Piece (Elt F) S1x192x1024 .f32)), y ∈ pc.1.set :=
  View.cover_of_tiled [⟨whole, p⟩] S1x192x1024.size (by rfl) y

set_option maxHeartbeats 1000000 in
/-- The body reads its four operand buffers, leaves them as they were, and leaves `rows` of them in the fifth. -/
theorem body_triple (c : Dev nD) (i : grid0.Coords)
    (a1 : Memref sig .tc .vmem S1x192x1024 .f32) (h1 : a1.IsWhole) (a2 : Memref sig .tc .vmem S1024x1024 .f32) (h2 : a2.IsWhole)
    (a3 : Memref sig .tc .vmem S1x1024x2048 .f32) (h3 : a3.IsWhole) (a4 : Memref sig .tc .vmem S1x2048x1024 .f32) (h4 : a4.IsWhole)
    (a5 : Memref sig .tc .vmem S1x192x1024 .f32) (h5 : a5.IsWhole)
    (x0 : Vec F S1x192x1024 .f32) (x1 : Vec F S1024x1024 .f32) (x2 : Vec F S1x1024x2048 .f32) (x3 : Vec F S1x2048x1024 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (rows x0 x1 x2 x3)) -∗ K ⟨⟩))
      ⊢ wp frame (wpE (defs₀ (F := F)) Variants.none c none) Set.univ (cc0_body i a1 h1 a2 h2 a3 h3 a4 h4 a5 h5) K := by
  simp only [cc0_body_eq_skeleton]; unfold cc0_body_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole_covers _)

/-! ## The pipeline's proof data -/

/-- Each operand's buffer keeps its block, the result's holds `rows` of the four blocks; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = rows (iblk m c 0 t) (iblk m c 1 t) (iblk m c 2 t) (iblk m c 3 t) := by dsimp only [dats]

/-- An operand's buffer holds its block whenever the body is called. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]) t d).trans (by unfold Dat.fetched Dat.blockOf iblk; rw [A_eq]; rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]) t d).trans (by unfold Dat.fetched Dat.blockOf iblk; rw [A_eq]; rfl)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

@[inherit_doc bodyPre]
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_triple c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
set_option maxHeartbeats 800000 in
/-- Every execution terminates with each array of the pipeline at what it computes, every other buffer as the region found it,
    and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hΦ := fun _ _ => rfl)

/-- The host lines write none of the four arguments. -/
theorem args_kept (c : Dev nD) : V m c main_arg0 = m ((c.tc : Thread nD τ).loc main_arg0) ∧ V m c main_arg1 = m ((c.tc : Thread nD τ).loc main_arg1)
      ∧ V m c main_arg2 = m ((c.tc : Thread nD τ).loc main_arg2) ∧ V m c main_arg3 = m ((c.tc : Thread nD τ).loc main_arg3) :=
    have o : Outs (F := F) := fun _ r c => m ((c : Thread nD τ).loc r)
    ⟨(V_eq m c _).trans ((V13_of m o c main_arg0 (by decide)).symm.trans (V13_main_arg0 m o c)),
      (V_eq m c _).trans ((V13_of m o c main_arg1 (by decide)).symm.trans (V13_main_arg1 m o c)),
      (V_eq m c _).trans ((V13_of m o c main_arg2 (by decide)).symm.trans (V13_main_arg2 m o c)),
      (V_eq m c _).trans ((V13_of m o c main_arg3 (by decide)).symm.trans (V13_main_arg3 m o c))⟩

/-- Every execution terminates with the four arguments as launched, the combine weights as the host lines left them, the rows
    as the pipeline computes them, and every counter at zero. -/
theorem run : θ_run defs (onTc (τ := τ) (main (F := F))) ⟨m, fun _ => 0, ρ⟩ (fun r => (∀ c : Dev nD,
      r.2.mem ((c.tc : Thread nD τ).loc main_v66) = V12 m c main_v66
      ∧ r.2.mem ((c.tc : Thread nD τ).loc main_v67) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run_all m ρ)
  have hw := (h.1 c).1
  have hr := (h.1 c).2
  refine ⟨(hr main_v66 (by decide +kernel)).trans (V_eq m c main_v66), hw 4, ?_, (hr main_arg1 (by decide +kernel)).trans (args_kept m c).2.1, ?_, ?_⟩
  · exact (hw 1).trans (((dats m 0 c).arrAt_in 1 rfl _).trans ((A_eq m c 1).trans (args_kept m c).1))
  · exact (hw 2).trans (((dats m 0 c).arrAt_in 2 rfl _).trans ((A_eq m c 2).trans (args_kept m c).2.2.1))
  · exact (hw 3).trans (((dats m 0 c).arrAt_in 3 rfl _).trans ((A_eq m c 3).trans (args_kept m c).2.2.2))

end Cert.KernelIdeal.Run

end
-- ==== Proof.Rows.lean ====
/-  What the feed-forward call leaves in its result array, at the ideal instance: at every index the gathered row through
    the two layers of the device's expert, as plain sums. -/
module

public import proofs.«01_k».proof.Defs
public import proofs.«01_k».proof.Proof.Run
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Rows

/-- Expert `e`'s two layers on a row of features, column `j`: a sum over the features and a maximum with zero give the hidden
    layer, a sum over the hidden layer gives the result. -/
def layers {E D H : Nat} (row : Fin D → EReal) (w1 : (⟨3, ![E, D, H]⟩ : Shape).Idx → EReal)
    (w2 : (⟨3, ![E, H, D]⟩ : Shape).Idx → EReal) (e : Fin E) (j : Fin D) : EReal :=
  ∑ f : Fin H, max (∑ d : Fin D, row d * w1 (ix3 e d f)) 0 * w2 (ix3 e f j)

/-- The two layers at every expert, slot and column, of the rows that the slots select. -/
def ffn {E C T D H : Nat} (oh : (⟨3, ![E, C, T]⟩ : Shape).Idx → EReal) (x : (⟨2, ![T, D]⟩ : Shape).Idx → EReal)
    (w1 : (⟨3, ![E, D, H]⟩ : Shape).Idx → EReal) (w2 : (⟨3, ![E, H, D]⟩ : Shape).Idx → EReal) :
    (⟨3, ![E, C, D]⟩ : Shape).Idx → EReal :=
  fun i => layers (fun d => ∑ t : Fin T, oh (ix3 (i 0) (i 1) t) * x (ix2 t d)) w1 w2 (i 0) (i 2)

end Cert.Rows

namespace Cert.KernelIdeal.Rows

open Cert.KernelIdeal Cert.KernelIdeal.Gen Cert.KernelIdeal.Run Cert.Rows
open Idealize.ShloMosaic.Pipeline (Dat)

/-- The body's stored block is the two layers of its four loaded blocks. -/
theorem pay_eq (v0 : Vec Ideal S1x192x1024 .f32) (v2 : Vec Ideal S1024x1024 .f32) (v5 : Vec Ideal S1x1024x2048 .f32)
    (v10 : Vec Ideal S1x2048x1024 .f32) : k0_pay1 v0 v2 v5 v10 = ffn v0 v2 v5 v10 := by
  funext i
  idx_vars i
  obtain rfl : i0 = 0 := Subsingleton.elim _ _
  unfold ffn layers
  beta_reduce
  pointwise [k0_pay1]

/-- Where each window's block stands at point `t`. -/
theorem idx_facts : ∀ t : Fin grid0.N, win0_0.index t = ![t.val, 0, 0] ∧ win0_1.index t = ![0, 0]
    ∧ win0_2.index t = ![t.val, 0, 0] ∧ win0_3.index t = ![t.val, 0, 0] ∧ win0_4.index t = ![t.val, 0, 0] := by
  decide +kernel

variable (m : (ℓ : Loc nD τ sig) → Buf (Elt Ideal) ℓ) (ρ : Dev nD → PrngReg)

/-- The result array of device `c` after the run. -/
theorem final (c : Dev nD) : (dats m 0 c).arrAt 4 cfg0.N
    = ffn (V12 m c main_v56) (m ((c : Thread nD τ).loc main_arg0))
        (m ((c : Thread nD τ).loc main_arg2)) (m ((c : Thread nD τ).loc main_arg3)) := by
  rw [← (args_kept m c).1, ← (args_kept m c).2.2.1, ← (args_kept m c).2.2.2, ← V_eq]
  refine (dats m 0 c).arrAt_eq_of_covers 4 _ (by decide +kernel) fun t hf y => ?_
  blk_simp
  rw [after0_4]
  unfold rows
  frame_out
  obtain ⟨e0, e1, e2, e3, e4⟩ := idx_facts t
  rw [pay_eq]
  unfold ffn layers
  beta_reduce
  blk_point [iblk, e0, e1, e2, e3, e4]

end Cert.KernelIdeal.Rows

end
-- ==== Proof.RefLines.lean ====
/-
  The reference's lines as named terms of the tokens, the router and the weights, and its two results as the last of them.
-/
module

public import proofs.«01_k».proof.Proof.Gen.ReferenceIdeal.Run

@[expose] public section

set_option maxRecDepth 16384

noncomputable section

namespace Cert.ReferenceIdeal.Lines

open Cert.ReferenceIdeal Cert.ReferenceIdeal.Gen
open Idealize.ShloMosaic Idealize.ShloMosaic.TcCoe Idealize.ShloMosaic.StableHlo

variable {F : FTy → Type} [FloatOps F]

/-- The gates. -/
def gates (x : FVec F S1024x1024 .f32) (r : FVec F S1024x16 .f32) : FVec F S1024x16 .f32 :=
  Host.dotGeneral dot_S1024x1024_S1024x16_S1024x16_1_0_0_1_n_n none x r

/-- The experts of each token, by falling gate. -/
def order (g : FVec F S1024x16 .f32) : IVec S1024x16 32 :=
  (Host.sort2 S1024x16 1 comparator_f32_i32_d1 (Host.negf g) (iotaInDim S1024x16 32 1)).2

/-- The two first of them. -/
def top (g : FVec F S1024x16 .f32) : IVec S1024x2 32 := extractStridedSlice S1024x2 ![0, 0] (order g) slices_S1024x16_S1024x2_0_0

/-- The positions that `take_along_axis` reads. -/
def place (k : IVec S1024x2 32) : IVec S1024x2x1 32 :=
  shapeCast S1024x2x1 (select (cmpi .slt k (broadcastInDim S1024x2 ![] bcast_S_S1024x2 (constantI S_ 32 0#32)))
    (addi k (broadcastInDim S1024x2 ![] bcast_S_S1024x2 (constantI S_ 32 16#32))) k) shapeCasts_S1024x2_S1024x2x1

/-- Whether they are within the row. -/
def inside (p : IVec S1024x2x1 32) : IVec S1024x2 1 :=
  Host.reduce IntOp.andi (andi (cmpi .sge p (broadcastInDim S1024x2x1 ![] bcast_S_S1024x2x1 (constantI S_ 32 0#32)))
      (cmpi .sle p (broadcastInDim S1024x2x1 ![0, 1, 2] bcast_S1x1x1_S1024x2x1_0_1_2
        (broadcastInDim S1x1x1 ![2] bcast_S1_S1x1x1_2 (constantI S1 32 15#32)))))
    (constantI S_ 1 1#1) reducesTo_S1024x2x1_S1024x2_d2 h_S_

/-- The two largest gates. -/
def vals (g : FVec F S1024x16 .f32) (k : IVec S1024x2 32) : FVec F S1024x2 .f32 :=
  select (inside (place k)) (Host.gather gather_S1024x16_S1024x2x1_S1024x2_n_1_0_0_1_2_11 g (place k))
    (broadcastInDim S1024x2 ![] bcast_S_S1024x2 (constant S_ .f32 0x7FC00000#32))

/-- The softmax's numerators. -/
def raised (v : FVec F S1024x2 .f32) : FVec F S1024x2 .f32 :=
  Host.exp (subf v (broadcastInDim S1024x2 ![0, 1] bcast_S1024x1_S1024x2_0_1 (broadcastInDim S1024x1 ![0] bcast_S1024_S1024x1_0
    (Host.reduce FloatOps.maximumf v (constant S_ .f32 0xFF800000#32) reducesTo_S1024x2_S1024_d1 h_S_))))

/-- The softmax. -/
def soft (u : FVec F S1024x2 .f32) : FVec F S1024x2 .f32 :=
  Host.divf u (broadcastInDim S1024x2 ![0, 1] bcast_S1024x1_S1024x2_0_1 (broadcastInDim S1024x1 ![0] bcast_S1024_S1024x1_0
    (Host.reduceAdd u (constant S_ .f32 0x00000000#32) reducesTo_S1024x2_S1024_d1 h_S_)))

/-- Which choice of a token is which expert. -/
def chosen (k : IVec S1024x2 32) : IVec S1024x2x16 1 :=
  cmpi .eq (broadcastInDim S1024x2x16 ![0, 1, 2] bcast_S1024x2x1_S1024x2x16_0_1_2 (broadcastInDim S1024x2x1 ![0, 1] bcast_S1024x2_S1024x2x1_0_1 k))
    (broadcastInDim S1024x2x16 ![0, 1, 2] bcast_S1x1x16_S1024x2x16_0_1_2 (broadcastInDim S1x1x16 ![2] bcast_S16_S1x1x16_2 (iotaInDim S16 32 0)))

/-- The weight of each expert for each token. -/
def weight (b : IVec S1024x2x16 1) (w : FVec F S1024x2 .f32) : FVec F S1024x16 .f32 :=
  Host.reduceAdd (select b (broadcastInDim S1024x2x16 ![0, 1, 2] bcast_S1024x2x1_S1024x2x16_0_1_2
      (broadcastInDim S1024x2x1 ![0, 1] bcast_S1024x2_S1024x2x1_0_1 w))
    (broadcastInDim S1024x2x16 ![] bcast_S_S1024x2x16 (constant S_ .f32 0x00000000#32)))
    (constant S_ .f32 0x00000000#32) reducesTo_S1024x2x16_S1024x16_d1 h_S_

/-- Which tokens each expert takes. -/
def mask (b : IVec S1024x2x16 1) : IVec S1024x16 1 := Host.reduce IntOp.ori b (constantI S_ 1 0#1) reducesTo_S1024x2x16_S1024x16_d1 h_S_

/-- The tokens, each expert's own first. -/
def sorted (a : IVec S1024x16 1) : IVec S1024x16 32 :=
  (Host.sort2 S1024x16 0 comparator_i1_i32_d0 (noti a) (iotaInDim S1024x16 32 0)).2

/-- The token in each slot. -/
def token (a : IVec S1024x16 1) : IVec S16x192 32 :=
  transpose S16x192 [1, 0] (extractStridedSlice S192x16 ![0, 0] (sorted a) slices_S1024x16_S192x16_0_0) transposes_S192x16_S16x192_1_0

/-- How many tokens each expert takes. -/
def total (a : IVec S1024x16 1) : IVec S16 32 :=
  Host.reduce IntOp.addi (extui 32 a natLt_1_32) (constantI S_ 32 0#32) reducesTo_S1024x16_S16_d0 h_S_

/-- Which slots hold a token. -/
def held (n : IVec S16 32) : IVec S16x192 1 :=
  cmpi .slt (broadcastInDim S16x192 ![0, 1] bcast_S1x192_S16x192_0_1 (broadcastInDim S1x192 ![1] bcast_S192_S1x192_1 (iotaInDim S192 32 0)))
    (broadcastInDim S16x192 ![0, 1] bcast_S16x1_S16x192_0_1 (broadcastInDim S16x1 ![0] bcast_S16_S16x1_0 n))

/-- The row numbers that the gather reads. -/
def fetch (k : IVec S16x192 32) : IVec S16x192x1 32 :=
  broadcastInDim S16x192x1 ![0, 1] bcast_S16x192_S16x192x1_0_1
    (select (cmpi .slt k (broadcastInDim S16x192 ![] bcast_S_S16x192 (constantI S_ 32 0#32)))
      (addi k (broadcastInDim S16x192 ![] bcast_S_S16x192 (constantI S_ 32 1024#32))) k)

/-- The token rows in each slot. -/
def rows (x : FVec F S1024x1024 .f32) (h : IVec S16x192 1) (k : IVec S16x192 32) : FVec F S16x192x1024 .f32 :=
  select (broadcastInDim S16x192x1024 ![0, 1, 2] bcast_S16x192x1_S16x192x1024_0_1_2 (broadcastInDim S16x192x1 ![0, 1] bcast_S16x192_S16x192x1_0_1 h))
    (Host.gather gather_S1024x1024_S16x192x1_S16x192x1024_2_0_n_n_0_2_11024 x (fetch k))
    (broadcastInDim S16x192x1024 ![] bcast_S_S16x192x1024 (constant S_ .f32 0x00000000#32))

/-- The two layers. -/
def layers (o : FVec F S16x192x1024 .f32) (w1 : FVec F S16x1024x2048 .f32) (w2 : FVec F S16x2048x1024 .f32) : FVec F S16x192x1024 .f32 :=
  Host.dotGeneral dot_S16x192x2048_S16x2048x1024_S16x192x1024_2_1_1_2_0_0 none
    (maximumf (Host.dotGeneral dot_S16x192x1024_S16x1024x2048_S16x192x2048_2_1_1_2_0_0 none o w1)
      (broadcastInDim S16x192x2048 ![] bcast_S_S16x192x2048 (constant S_ .f32 0x00000000#32))) w2

/-- The combine weights, before they are laid out in rows. -/
def combine (h : IVec S16x192 1) (k : IVec S16x192 32) (w : FVec F S1024x16 .f32) : FVec F S1024x16x192 .f32 :=
  select (andi (broadcastInDim S1024x16x192 ![0, 1, 2] bcast_S1x16x192_S1024x16x192_0_1_2 (broadcastInDim S1x16x192 ![1, 2] bcast_S16x192_S1x16x192_1_2 h))
      (cmpi .eq (broadcastInDim S1024x16x192 ![0, 1, 2] bcast_S1x16x192_S1024x16x192_0_1_2 (broadcastInDim S1x16x192 ![1, 2] bcast_S16x192_S1x16x192_1_2 k))
        (broadcastInDim S1024x16x192 ![0, 1, 2] bcast_S1024x1x1_S1024x16x192_0_1_2 (broadcastInDim S1024x1x1 ![0] bcast_S1024_S1024x1x1_0 (iotaInDim S1024 32 0)))))
    (broadcastInDim S1024x16x192 ![0, 1, 2] bcast_S1024x16x1_S1024x16x192_0_1_2 (broadcastInDim S1024x16x1 ![0, 1] bcast_S1024x16_S1024x16x1_0_1 w))
    (broadcastInDim S1024x16x192 ![] bcast_S_S1024x16x192 (constant S_ .f32 0x00000000#32))

/-! ## Together -/

/-- Which tokens each expert takes, from the gates. -/
def taken (g : FVec F S1024x16 .f32) : IVec S1024x16 1 := mask (chosen (top g))

/-- The weights, from the gates. -/
def weights (g : FVec F S1024x16 .f32) : FVec F S1024x16 .f32 := weight (chosen (top g)) (soft (raised (vals g (top g))))

/-- The combine weights and the expert rows, from the gates. -/
def combined (g : FVec F S1024x16 .f32) : FVec F S1024x3072 .f32 :=
  shapeCast S1024x3072 (combine (held (total (taken g))) (token (taken g)) (weights g)) shapeCasts_S1024x16x192_S1024x3072

@[inherit_doc combined]
def answered (g : FVec F S1024x16 .f32) (x : FVec F S1024x1024 .f32) (w1 : FVec F S16x1024x2048 .f32) (w2 : FVec F S16x2048x1024 .f32) :
    FVec F S16x192x1024 .f32 :=
  layers (rows x (held (total (taken g))) (token (taken g))) w1 w2

variable (m : (ℓ : Loc nD τ sig) → Buf (Elt F) ℓ) (c : Dev nD)

theorem out1_eq : Value.res_out1 m c = answered (gates (m (c.tc.loc main_arg0)) (m (c.tc.loc main_arg1))) (m (c.tc.loc main_arg0))
    (m (c.tc.loc main_arg2)) (m (c.tc.loc main_arg3)) := by
  unfold Value.res_out1 Value.res_main_v47
  rfl

theorem out0_eq : Value.res_out0 m c = combined (gates (m (c.tc.loc main_arg0)) (m (c.tc.loc main_arg1))) := by
  unfold Value.res_out0 Value.res_main_v59
  rfl

end Cert.ReferenceIdeal.Lines

end
-- ==== Proof.RefAt.lean ====
/-
  The reference's lines read at an index: its sorts, gathers and softmax give what the routing says.
-/
module

public import proofs.«01_k».proof.Proof.RefLines
public import proofs.«01_k».proof.Proof.Spec
public import Idealize.ShloMosaic.Lib.StableHlo.Predicate
public import Idealize.ShloMosaic.Lib.Routing.OpsOne

@[expose] public section

set_option maxRecDepth 16384

noncomputable section

namespace Cert.ReferenceIdeal.At

open Cert.ReferenceIdeal Cert.ReferenceIdeal.Gen Cert.ReferenceIdeal.Lines Cert.Choice Cert.Spec
open Idealize.ShloMosaic
open scoped Classical

theorem gates_at (x : FVec Ideal S1024x1024 .f32) (r : FVec Ideal S1024x16 .f32) (t : Fin 1024) (e : Fin 16) :
    gates x r (ix2 t e) = ∑ d : Fin 1024, x (ix2 t d) * r (ix2 d e) := by
  pointwise [gates]

/-! ## The two largest gates -/

theorem comparator_eq (a b : EReal × BitVec 32) : (comparator_f32_i32_d1 (F := Ideal) a b == 1#1) = decide (a.1 < b.1) := by
  obtain ⟨a1, a2⟩ := a
  obtain ⟨b1, b2⟩ := b
  have h (c : Ideal .f32) : Scalar.select (FloatOps.cmpf .une c c) (FloatOps.ofBits .f32 0x7FC00000#32)
      (Scalar.select (FloatOps.cmpf .oeq c (FloatOps.ofBits .f32 0x00000000#32)) (FloatOps.ofBits .f32 0x00000000#32) c) = c := by
    have hz : (FloatOps.ofBits .f32 0x00000000#32 : Ideal .f32) = 0 := Ideal.ofBits_zero_f32
    rw [hz]
    simp only [Scalar.select, Ideal.cmpf_def, Ideal.cmp]
    by_cases h0 : c = 0 <;> simp [h0]
  simp only [comparator_f32_i32_d1]
  rw [h a1, h b1, Ideal.cmpfTotal_def]
  show (Ideal.cmp .olt a1 b1 == 1#1) = _
  simp only [Ideal.cmp]
  by_cases hlt : a1 < b1 <;> simp [hlt]

theorem sort_row {α : Type} (cmp : α × BitVec 32 → α × BitVec 32 → BitVec 1) (x : S1024x16.Idx → α) (y : IVec S1024x16 32) (t : Fin 1024)
    (j : Fin 16) : (Host.sort2 S1024x16 1 cmp x y).2 (ix2 t j)
      = y (ix2 t (sortedFrom (fun k k' : Fin 16 => cmp (x (ix2 t k), y (ix2 t k)) (x (ix2 t k'), y (ix2 t k')) == 1#1) j)) := by
  have hal (j k : Fin 16) : Shape.Idx.along (ix2 t j : S1024x16.Idx) (1 : Fin 2) k = ix2 t k := by
    funext a
    match a with
    | ⟨0, _⟩ => rfl
    | ⟨1, _⟩ => rfl
  unfold Host.sort2
  rw [dif_pos (by decide)]
  refine (congrArg y (hal j _)).trans (congrArg (fun R : Fin 16 → Fin 16 → Bool => y (ix2 t (sortedFrom R j))) ?_)
  funext k k'
  exact congrArg₂ (fun u v : S1024x16.Idx => cmp (x u, y u) (x v, y v) == 1#1) (hal j k) (hal j k')

theorem order_at (g : FVec Ideal S1024x16 .f32) (hg : Real (row g)) (t : Fin 1024) :
    order g (ix2 t (0 : Fin 16)) = BitVec.ofNat 32 (first (row g t)).val
    ∧ order g (ix2 t (1 : Fin 16)) = BitVec.ofNat 32 (second (row g t)).val := by
  have key := sortedFrom_gates (g := row g t) (hg.ne_bot t)
    (fun k k' => comparator_f32_i32_d1 (F := Ideal) (Host.negf g (ix2 t k), iotaInDim S1024x16 32 1 (ix2 t k))
      (Host.negf g (ix2 t k'), iotaInDim S1024x16 32 1 (ix2 t k')) == 1#1) (fun a b => comparator_eq _ _)
  have h (j : Fin 16) := sort_row (comparator_f32_i32_d1 (F := Ideal)) (Host.negf g) (iotaInDim S1024x16 32 1) t j
  unfold order
  rw [h, h, key.1, key.2]
  exact ⟨rfl, rfl⟩

theorem top_at (g : FVec Ideal S1024x16 .f32) (hg : Real (row g)) (t : Fin 1024) (j : Fin 2) :
    top g (ix2 t j) = BitVec.ofNat 32 (choice (row g t) j).val := by
  pointwise [top]
  match j with
  | ⟨0, _⟩ => exact (order_at g hg t).1
  | ⟨1, _⟩ => exact (order_at g hg t).2

theorem slt_zero {n : ℕ} (h : n < 2 ^ 31) : IntOp.cmpi .slt (BitVec.ofNat 32 n) 0#32 = 0#1 := by
  refine ValueIdx.eq_zero_of_ne_one fun h' => ?_
  have := (StableHlo.Predicate.slt_ofNat_iff n 0 h (by omega)).mp h'
  omega

theorem place_at (k : IVec S1024x2 32) (t : Fin 1024) (j : Fin 2) (p : Fin 16) (hk : k (ix2 t j) = BitVec.ofNat 32 p.val) :
    place k (ix3 t j (0 : Fin 1)) = BitVec.ofNat 32 p.val := by
  pointwise [place]
  rw [hk, slt_zero (by omega)]
  rfl

theorem inside_at (k : IVec S1024x2x1 32) (t : Fin 1024) (j : Fin 2) (p : Fin 16) (hk : k (ix3 t j (0 : Fin 1)) = BitVec.ofNat 32 p.val) :
    inside k (ix2 t j) = 1#1 := by
  pointwise [inside]
  rw [show (Finset.univ : Finset (Fin 1)) = {0} from rfl, Finset.fold_singleton, hk]
  clear hk
  revert p
  decide

theorem pick_at (g : FVec Ideal S1024x16 .f32) (k : IVec S1024x2x1 32) (t : Fin 1024) (j : Fin 2) (p : Fin 16)
    (hk : k (ix3 t j (0 : Fin 1)) = BitVec.ofNat 32 p.val) :
    Host.gather gather_S1024x16_S1024x2x1_S1024x2_n_1_0_0_1_2_11 g k (ix2 t j) = g (ix2 t p) := by
  unfold Host.gather
  refine congrArg g (funext fun a => Fin.ext ?_)
  match a with
  | ⟨0, _⟩ =>
    show GatherDims.start gather_S1024x16_S1024x2x1_S1024x2_n_1_0_0_1_2_11 (ix2 t j) k (0 : Fin 2)
      + GatherDims.batchCoord gather_S1024x16_S1024x2x1_S1024x2_n_1_0_0_1_2_11 (ix2 t j) (0 : Fin 2)
      + GatherDims.offCoord gather_S1024x16_S1024x2x1_S1024x2_n_1_0_0_1_2_11 (ix2 t j) (0 : Fin 2) = t.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S1024x16_S1024x2x1_S1024x2_n_1_0_0_1_2_11.operandBatchingDims from List.mem_singleton.mpr rfl)]
    rfl
  | ⟨1, _⟩ =>
    show GatherDims.start gather_S1024x16_S1024x2x1_S1024x2_n_1_0_0_1_2_11 (ix2 t j) k (1 : Fin 2)
      + GatherDims.batchCoord gather_S1024x16_S1024x2x1_S1024x2_n_1_0_0_1_2_11 (ix2 t j) (1 : Fin 2)
      + GatherDims.offCoord gather_S1024x16_S1024x2x1_S1024x2_n_1_0_0_1_2_11 (ix2 t j) (1 : Fin 2) = p.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x16_S1024x2x1_S1024x2_n_1_0_0_1_2_11.startIndexMap from List.mem_singleton.mpr rfl)]
    have hsi : GatherDims.siIdx gather_S1024x16_S1024x2x1_S1024x2_n_1_0_0_1_2_11 (ix2 t j)
        ⟨List.idxOf (1 : Fin 2) [1], List.idxOf_lt_length_iff.2 (List.mem_singleton.mpr rfl)⟩ = ix3 t j (0 : Fin 1) := by
      funext b
      refine Fin.ext ?_
      match b with
      | ⟨0, _⟩ => rfl
      | ⟨1, _⟩ => rfl
      | ⟨2, _⟩ => rfl
    refine (congrArg (fun w : BitVec 32 => min w.toInt.toNat (16 - 1)) ((congrArg k hsi).trans hk)).trans ?_
    rw [toInt_small (by omega)]
    omega

theorem vals_at (g : FVec Ideal S1024x16 .f32) (k : IVec S1024x2 32) (t : Fin 1024) (j : Fin 2) (p : Fin 16)
    (hk : k (ix2 t j) = BitVec.ofNat 32 p.val) : vals g k (ix2 t j) = g (ix2 t p) := by
  pointwise [vals]
  rw [inside_at _ t j p (place_at k t j p hk), pick_at g _ t j p (place_at k t j p hk)]
  rfl

/-! ## The softmax -/

theorem raised_at (v : FVec Ideal S1024x2 .f32) (t : Fin 1024) (j : Fin 2) (h : v (ix2 t (1 : Fin 2)) ≤ v (ix2 t (0 : Fin 2))) :
    raised v (ix2 t j) = Ideal.exp (v (ix2 t j) - v (ix2 t (0 : Fin 2))) := by
  pointwise [raised]
  congr 2
  refine le_antisymm ((Finset.fold_max_le _).mpr ⟨?_, fun e _ => ?_⟩) ((Finset.le_fold_max _).mpr (Or.inr ⟨0, Finset.mem_univ _, le_rfl⟩))
  · exact ofBits_neg_inf.le.trans bot_le
  · match e with
    | ⟨0, _⟩ => exact le_rfl
    | ⟨1, _⟩ => exact h

theorem soft_at (u : FVec Ideal S1024x2 .f32) (t : Fin 1024) (j : Fin 2) :
    soft u (ix2 t j) = Ideal.div (u (ix2 t j)) (u (ix2 t (0 : Fin 2)) + u (ix2 t (1 : Fin 2))) := by
  pointwise [soft]
  rw [Fin.sum_univ_two]

/-- The softmax of two real numbers, the larger first. -/
theorem softmax_real (a b : ℝ) :
    Ideal.div (Ideal.exp ((a : EReal) - a)) (Ideal.exp ((a : EReal) - a) + Ideal.exp ((b : EReal) - a)) = Ideal.div 1 (1 + Ideal.exp ((b : EReal) - a))
    ∧ Ideal.div (Ideal.exp ((b : EReal) - a)) (Ideal.exp ((a : EReal) - a) + Ideal.exp ((b : EReal) - a))
      = 1 - Ideal.div 1 (1 + Ideal.exp ((b : EReal) - a)) := by
  have h0 : Ideal.exp ((a : EReal) - a) = 1 := by
    rw [← EReal.coe_sub, sub_self, Ideal.exp_coe, Real.exp_zero]
    rfl
  have h1 : Ideal.exp ((b : EReal) - a) = ((Real.exp (b - a) : ℝ) : EReal) := by rw [← EReal.coe_sub, Ideal.exp_coe]
  have hp : (0 : ℝ) < Real.exp (b - a) := Real.exp_pos _
  have h2 : (1 : EReal) + ((Real.exp (b - a) : ℝ) : EReal) = ((1 + Real.exp (b - a) : ℝ) : EReal) := by
    rw [EReal.coe_add]
    rfl
  have hn : 1 + Real.exp (b - a) ≠ 0 := by positivity
  rw [h0, h1, h2]
  refine ⟨rfl, ?_⟩
  rw [Ideal.div_coe hn, Ideal.div_coe hn, ← EReal.coe_mul, one_mul, ← EReal.coe_one, ← EReal.coe_sub]
  congr 1
  field_simp
  ring

theorem soft_vals (g : FVec Ideal S1024x16 .f32) (hg : Real (row g)) (t : Fin 1024) (j : Fin 2) :
    soft (raised (vals g (top g))) (ix2 t j) = if j = 0 then share (row g t) else 1 - share (row g t) := by
  have hv (j : Fin 2) : vals g (top g) (ix2 t j) = row g t (choice (row g t) j) := vals_at g _ t j _ (top_at g hg t j)
  have hle : vals g (top g) (ix2 t (1 : Fin 2)) ≤ vals g (top g) (ix2 t (0 : Fin 2)) := by
    rw [hv, hv]
    rcases top_first (row g t) (second (row g t)) with h | h
    · exact h.le
    · exact h.1.le
  rw [soft_at, raised_at _ t j hle, raised_at _ t 0 hle, raised_at _ t 1 hle, hv, hv, hv]
  obtain ⟨a, ha⟩ := hg t (first (row g t))
  obtain ⟨b, hb⟩ := hg t (second (row g t))
  have h0 : row g t (choice (row g t) 0) = (a : EReal) := ha
  have h1 : row g t (choice (row g t) 1) = (b : EReal) := hb
  rw [h0, h1]
  unfold share
  rw [ha, hb]
  obtain rfl | rfl : j = 0 ∨ j = 1 := by omega
  · rw [if_pos rfl, h0]
    exact (softmax_real a b).1
  · rw [if_neg (by decide), h1]
    exact (softmax_real a b).2

/-! ## The weights and the mask -/

section routed
variable (g : FVec Ideal S1024x16 .f32) (hg : Real (row g))
include hg

theorem chosen_at (t : Fin 1024) (j : Fin 2) (e : Fin 16) : chosen (top g) (ix3 t j e) = if choice (row g t) j = e then 1#1 else 0#1 := by
  pointwise [chosen]
  rw [top_at g hg, cmpi_ofNat (by omega) (by omega)]
  exact if_congr Fin.ext_iff.symm rfl rfl

theorem weights_at (t : Fin 1024) (e : Fin 16) : weights g (ix2 t e) = Spec.weight (row g t) e := by
  unfold weights
  pointwise [Lines.weight]
  rw [Fin.sum_univ_two, chosen_at g hg, chosen_at g hg, soft_vals g hg, soft_vals g hg]
  show _ = (if choice (row g t) 0 = e then share (row g t) else 0) + (if choice (row g t) 1 = e then 1 - share (row g t) else 0)
  have e1 : (1 : Fin 2) ≠ 0 := by decide
  by_cases h0 : choice (row g t) 0 = e <;> by_cases h1 : choice (row g t) 1 = e <;> simp [h0, h1, e1, Scalar.select]

theorem taken_at (t : Fin 1024) (e : Fin 16) : taken g (ix2 t e) = if Takes (row g) e t.val then 1#1 else 0#1 := by
  unfold taken
  pointwise [mask]
  rw [show (Finset.univ : Finset (Fin 2)) = insert 0 {1} from rfl, Finset.fold_insert (by decide), Finset.fold_singleton, chosen_at g hg,
    chosen_at g hg, takes_val]
  show IntOp.ori (if first (row g t) = e then 1#1 else 0#1) (IntOp.ori (if second (row g t) = e then 1#1 else 0#1) 0#1) = _
  by_cases h0 : first (row g t) = e <;> by_cases h1 : second (row g t) = e <;> simp [h0, h1, IntOp.ori]

end routed

end Cert.ReferenceIdeal.At

end
-- ==== Proof.RefSlots.lean ====
/-
  The reference's slots: its sort by the mask puts in each slot the token that fills it, so that its two results are what the
  routing says.
-/
module

public import proofs.«01_k».proof.Proof.RefAt

@[expose] public section

set_option maxRecDepth 16384

noncomputable section

namespace Cert.ReferenceIdeal.At

open Cert.ReferenceIdeal Cert.ReferenceIdeal.Gen Cert.ReferenceIdeal.Lines Cert.Choice Cert.Spec
open Idealize.ShloMosaic
open scoped Classical

theorem sort_column {α : Type} (cmp : α × BitVec 32 → α × BitVec 32 → BitVec 1) (x : S1024x16.Idx → α) (y : IVec S1024x16 32) (e : Fin 16)
    (t : Fin 1024) : (Host.sort2 S1024x16 0 cmp x y).2 (ix2 t e)
      = y (ix2 (sortedFrom (fun k k' : Fin 1024 => cmp (x (ix2 k e), y (ix2 k e)) (x (ix2 k' e), y (ix2 k' e)) == 1#1) t) e) := by
  have hal (t k : Fin 1024) : Shape.Idx.along (ix2 t e : S1024x16.Idx) (0 : Fin 2) k = ix2 k e := by
    funext a
    match a with
    | ⟨0, _⟩ => rfl
    | ⟨1, _⟩ => rfl
  unfold Host.sort2
  rw [dif_pos (by decide)]
  refine (congrArg y (hal t _)).trans (congrArg (fun R : Fin 1024 → Fin 1024 → Bool => y (ix2 (sortedFrom R t) e)) ?_)
  funext k k'
  exact congrArg₂ (fun u v : S1024x16.Idx => cmp (x u, y u) (x v, y v) == 1#1) (hal t k) (hal t k')

theorem mask_comparator (a b : BitVec 1 × BitVec 32) : (comparator_i1_i32_d0 a b == 1#1) = a.1.ult b.1 := by
  show (BitVec.ofBool (a.1.ult b.1) == 1#1) = a.1.ult b.1
  cases a.1.ult b.1 <;> rfl

/-- Adding up a column of bits counts them. -/
theorem fold_count (P : ℕ → Prop) (n : ℕ) (f : Fin n → BitVec 32) (hf : ∀ t, f t = if P t.val then 1#32 else 0#32) :
    Finset.fold IntOp.addi 0#32 f Finset.univ = BitVec.ofNat 32 (Nat.count P n) := by
  have h (S : Finset (Fin n)) : Finset.fold IntOp.addi 0#32 f S = BitVec.ofNat 32 (S.filter fun x : Fin n => P x.val).card := by
    induction S using Finset.induction_on with
    | empty => simp
    | insert a S ha ih =>
      rw [Finset.fold_insert ha, ih, hf, Finset.filter_insert]
      by_cases hp : P a.val
      · rw [if_pos hp, if_pos hp, Finset.card_insert_of_notMem (by simp [ha]), Nat.add_comm, BitVec.ofNat_add]
        rfl
      · rw [if_neg hp, if_neg hp]
        exact BitVec.zero_add _
  rw [h, ← Routing.card_filter_fin n P]

section routed
variable (g : FVec Ideal S1024x16 .f32) (hg : Real (row g))
include hg

theorem token_at (e : Fin 16) (s : Fin 192) (hs : s.val < Nat.count (Takes (row g) e) 1024) :
    ∃ p : Fin 1024, token (taken g) (ix2 e s) = BitVec.ofNat 32 p.val ∧ Fills (row g) e s.val p.val := by
  have h := sort_column comparator_i1_i32_d0 (noti (taken g)) (iotaInDim S1024x16 32 0) e ⟨s.val, by omega⟩
  have key := sortedFrom_mask (n := 1024) (Takes (row g) e) (fun k => noti (taken g) (ix2 k e)) (fun k => by
      show ~~~(taken g (ix2 k e)) = _
      rw [taken_at g hg]
      by_cases hp : Takes (row g) e k.val
      · rw [if_pos hp, if_pos hp]
        rfl
      · rw [if_neg hp, if_neg hp]
        rfl)
    (fun k k' : Fin 1024 => comparator_i1_i32_d0 (noti (taken g) (ix2 k e), iotaInDim S1024x16 32 0 (ix2 k e))
      (noti (taken g) (ix2 k' e), iotaInDim S1024x16 32 0 (ix2 k' e)) == 1#1)
    (fun a b => mask_comparator _ _) ⟨s.val, by omega⟩ hs
  refine ⟨_, ?_, key⟩
  pointwise [token]
  exact h

theorem held_at (e : Fin 16) (s : Fin 192) :
    held (total (taken g)) (ix2 e s) = if s.val < Nat.count (Takes (row g) e) 1024 then 1#1 else 0#1 := by
  have hc : Nat.count (Takes (row g) e) 1024 ≤ 1024 := Nat.count_le _
  have ht : total (taken g) (ix1 e) = BitVec.ofNat 32 (Nat.count (Takes (row g) e) 1024) := by
    pointwise [total]
    refine fold_count (Takes (row g) e) 1024 _ fun t => ?_
    rw [taken_at g hg]
    by_cases hp : Takes (row g) e t.val
    · rw [if_pos hp, if_pos hp]
      rfl
    · rw [if_neg hp, if_neg hp]
      rfl
  pointwise [held]
  rw [ht]
  by_cases h : s.val < Nat.count (Takes (row g) e) 1024
  · rw [if_pos h]
    exact (StableHlo.Predicate.slt_ofNat_iff _ _ (by omega) (by omega)).mpr h
  · rw [if_neg h]
    exact ValueIdx.eq_zero_of_ne_one fun h' => h ((StableHlo.Predicate.slt_ofNat_iff _ _ (by omega) (by omega)).mp h')

omit hg in
theorem fetch_at (k : IVec S16x192 32) (e : Fin 16) (s : Fin 192) (p : Fin 1024) (hk : k (ix2 e s) = BitVec.ofNat 32 p.val) :
    fetch k (ix3 e s (0 : Fin 1)) = BitVec.ofNat 32 p.val := by
  pointwise [fetch]
  rw [hk, slt_zero (by omega)]
  rfl

omit hg in
theorem row_at (x : FVec Ideal S1024x1024 .f32) (k : IVec S16x192x1 32) (e : Fin 16) (s : Fin 192) (d : Fin 1024) (p : Fin 1024)
    (hk : k (ix3 e s (0 : Fin 1)) = BitVec.ofNat 32 p.val) :
    Host.gather gather_S1024x1024_S16x192x1_S16x192x1024_2_0_n_n_0_2_11024 x k (ix3 e s d) = x (ix2 p d) := by
  unfold Host.gather
  refine congrArg x (funext fun a => Fin.ext ?_)
  match a with
  | ⟨0, _⟩ =>
    show GatherDims.start gather_S1024x1024_S16x192x1_S16x192x1024_2_0_n_n_0_2_11024 (ix3 e s d) k (0 : Fin 2)
      + GatherDims.batchCoord gather_S1024x1024_S16x192x1_S16x192x1024_2_0_n_n_0_2_11024 (ix3 e s d) (0 : Fin 2)
      + GatherDims.offCoord gather_S1024x1024_S16x192x1_S16x192x1024_2_0_n_n_0_2_11024 (ix3 e s d) (0 : Fin 2) = p.val
    rw [GatherDims.batchCoord_eq_zero _ _ _ (fun h => absurd h List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x1024_S16x192x1_S16x192x1024_2_0_n_n_0_2_11024.startIndexMap from List.mem_singleton.mpr rfl)]
    have hsi : GatherDims.siIdx gather_S1024x1024_S16x192x1_S16x192x1024_2_0_n_n_0_2_11024 (ix3 e s d)
        ⟨List.idxOf (0 : Fin 2) [0], List.idxOf_lt_length_iff.2 (List.mem_singleton.mpr rfl)⟩ = ix3 e s (0 : Fin 1) := by
      funext b
      refine Fin.ext ?_
      match b with
      | ⟨0, _⟩ => rfl
      | ⟨1, _⟩ => rfl
      | ⟨2, _⟩ => rfl
    refine (congrArg (fun w : BitVec 32 => min w.toInt.toNat (1024 - 1)) ((congrArg k hsi).trans hk)).trans ?_
    rw [toInt_small (by omega)]
    omega
  | ⟨1, _⟩ =>
    show GatherDims.start gather_S1024x1024_S16x192x1_S16x192x1024_2_0_n_n_0_2_11024 (ix3 e s d) k (1 : Fin 2)
      + GatherDims.batchCoord gather_S1024x1024_S16x192x1_S16x192x1024_2_0_n_n_0_2_11024 (ix3 e s d) (1 : Fin 2)
      + GatherDims.offCoord gather_S1024x1024_S16x192x1_S16x192x1024_2_0_n_n_0_2_11024 (ix3 e s d) (1 : Fin 2) = d.val
    rw [GatherDims.batchCoord_eq_zero _ _ _ (fun h => absurd h List.not_mem_nil)]
    unfold GatherDims.start GatherDims.offCoord
    rw [dif_neg (show (1 : Fin 2) ∉ gather_S1024x1024_S16x192x1_S16x192x1024_2_0_n_n_0_2_11024.startIndexMap from
      fun h => absurd (List.mem_singleton.mp h) (by decide)),
      dif_pos (show (1 : Fin 2) ∈ gather_S1024x1024_S16x192x1_S16x192x1024_2_0_n_n_0_2_11024.sKept from
        (GatherDims.mem_sKept _ _).mpr ⟨fun h => absurd (List.mem_singleton.mp h) (by decide), List.not_mem_nil⟩)]
    simp only [Nat.add_zero, Nat.zero_add]
    rfl

theorem rows_at (x : FVec Ideal S1024x1024 .f32) (e : Fin 16) (s : Fin 192) (d : Fin 1024) :
    rows x (held (total (taken g))) (token (taken g)) (ix3 e s d)
      = ∑ t : Fin 1024, (if Fills (row g) e s.val t.val then (1 : EReal) else 0) * x (ix2 t d) := by
  pointwise [rows]
  rw [held_at g hg]
  by_cases h : s.val < Nat.count (Takes (row g) e) 1024
  · obtain ⟨p, hp, hf⟩ := token_at g hg e s h
    rw [if_pos h, row_at x _ e s d p (fetch_at _ e s p hp), sum_fills p hf]
    rfl
  · rw [if_neg h, sum_empty h]
    rfl

theorem answered_at (x : FVec Ideal S1024x1024 .f32) (w1 : FVec Ideal S16x1024x2048 .f32) (w2 : FVec Ideal S16x2048x1024 .f32)
    (e : Fin 16) (s : Fin 192) (j : Fin 1024) : answered g x w1 w2 (ix3 e s j)
      = ∑ f : Fin 2048, max (∑ d : Fin 1024, (∑ t : Fin 1024, (if Fills (row g) e s.val t.val then (1 : EReal) else 0) * x (ix2 t d))
          * w1 (ix3 e d f)) 0 * w2 (ix3 e f j) := by
  unfold answered
  pointwise [Lines.layers]
  simp only [rows_at g hg]

theorem combine_at (e : Fin 16) (s : Fin 192) (t : Fin 1024) :
    combine (held (total (taken g))) (token (taken g)) (weights g) (ix3 t e s)
      = if Fills (row g) e s.val t.val then Spec.weight (row g t) e else 0 := by
  pointwise [combine]
  rw [held_at g hg, weights_at g hg]
  by_cases h : s.val < Nat.count (Takes (row g) e) 1024
  · obtain ⟨p, hp, hf⟩ := token_at g hg e s h
    rw [if_pos h, hp, cmpi_ofNat (by omega) (by omega)]
    by_cases hpt : p.val = t.val
    · rw [if_pos hpt, if_pos (hpt ▸ hf)]
      rfl
    · rw [if_neg hpt, if_neg fun h' => hpt (hf.unique h')]
      rfl
  · rw [if_neg h, if_neg fun h' => h h'.lt]
    have : ∀ b : BitVec 1, IntOp.andi 0#1 b = 0#1 := by decide
    rw [this]
    rfl

end routed

end Cert.ReferenceIdeal.At

end
-- ==== Proof.Join.lean ====
/-
  The two programs side by side: finite tokens give real gates, one device's results are that device's blocks of the
  reference's.
-/
module

public import proofs.«01_k».proof.Proof.At
public import proofs.«01_k».proof.Proof.Rows
public import proofs.«01_k».proof.Proof.RefSlots
public import proofs.«01_k».proof.Proof.Gen.Pre_finite_tokens_KernelIdeal
public import Idealize.ShloMosaic.Lib.ReduceAll

@[expose] public section

set_option maxRecDepth 16384

noncomputable section

namespace Cert.Join

open Idealize.ShloMosaic
open scoped Classical

/-! ## Finite tokens give real gates -/

/-- A value whose magnitude is below infinity is a real number. -/
theorem real_of_abs_lt (a : EReal) (h : max a (-a) < ⊤) : ∃ r : ℝ, a = (r : EReal) := by
  induction a with
  | bot => simp at h
  | top => simp at h
  | coe r => exact ⟨r, rfl⟩

/-- A sum of products of reals is a real. -/
theorem real_dot {n : Nat} (u v : Fin n → EReal) (hu : ∀ d, ∃ r : ℝ, u d = (r : EReal)) (hv : ∀ d, ∃ r : ℝ, v d = (r : EReal)) :
    ∃ r : ℝ, ∑ d, u d * v d = (r : EReal) := by
  choose a ha using hu
  choose b hb using hv
  refine ⟨∑ d, a d * b d, ?_⟩
  simp only [ha, hb, ← EReal.coe_mul]
  exact (map_sum (⟨⟨Real.toEReal, EReal.coe_zero⟩, EReal.coe_add⟩ : ℝ →+ EReal) (fun d => a d * b d) Finset.univ).symm

theorem ofBits_inf : (FloatOps.ofBits .f32 0x7F800000#32 : Ideal .f32) = (⊤ : EReal) := by
  show Ideal.ofBits FTy.f32 0x7F800000#32 = ⊤
  simp [Ideal.ofBits, Ideal.ieee]

theorem bit_lt (a : Ideal .f32) (h : FloatOps.cmpf .olt (FloatOps.absf a) (FloatOps.ofBits .f32 0x7F800000#32 : Ideal .f32) = 1#1) :
    ∃ r : ℝ, a = (r : EReal) := by
  rw [ofBits_inf, Ideal.cmpf_def, Ideal.absf_def] at h
  refine real_of_abs_lt a ?_
  by_contra hn
  simp [Ideal.cmp, hn] at h

instance : Subsingleton (Cert.Pre_finite_tokens_KernelIdeal.S_).Idx := ⟨fun a b => by funext i; exact i.elim0⟩

open Cert.Pre_finite_tokens_KernelIdeal in
attribute [local instance] Cert.Pre_finite_tokens_KernelIdeal.Gen.facts in
theorem finite_of_pre (x : FVec Ideal S1024x1024 .f32) (r : FVec Ideal S1024x16 .f32) (w1 : FVec Ideal S4x1024x2048 .f32)
    (w2 : FVec Ideal S4x2048x1024 .f32) (h : fn (F := Ideal) x r w1 w2 = fun _ => 1#1) :
    (∀ i, ∃ a : ℝ, x i = (a : EReal)) ∧ ∀ i, ∃ a : ℝ, r i = (a : EReal) := by
  have h0 := congrFun h ix0
  have hb : ∀ a b : BitVec 1, a &&& b = 1#1 → a = 1#1 ∧ b = 1#1 := by decide
  obtain ⟨h1, h2⟩ := hb _ _ h0
  exact ⟨fun i => bit_lt _ (Host.reduce_andi_all _ _ _ _ _ h1 i), fun i => bit_lt _ (Host.reduce_andi_all _ _ _ _ _ h2 i)⟩

/-- Both programs make the same gates. -/
theorem gates_eq (x : FVec Ideal ⟨2, ![1024, 1024]⟩ .f32) (r : FVec Ideal ⟨2, ![1024, 16]⟩ .f32) :
    Cert.KernelIdeal.Lines.gates x r = Cert.ReferenceIdeal.Lines.gates x r := by
  funext i
  rw [ValueIdx.eq_ix2 i]
  exact (Cert.KernelIdeal.At.gates_at x r _ _).trans (Cert.ReferenceIdeal.At.gates_at x r _ _).symm

theorem real_gates (x : FVec Ideal ⟨2, ![1024, 1024]⟩ .f32) (r : FVec Ideal ⟨2, ![1024, 16]⟩ .f32)
    (hx : ∀ i, ∃ a : ℝ, x i = (a : EReal)) (hr : ∀ i, ∃ a : ℝ, r i = (a : EReal)) :
    Spec.Real (Spec.row (Cert.ReferenceIdeal.Lines.gates x r)) := fun t e => by
  unfold Spec.row
  rw [Cert.ReferenceIdeal.At.gates_at]
  exact real_dot _ _ (fun d => hx _) fun d => hr _

/-! ## Blocks -/

theorem funext_two {n k : Nat} {α : Type} {u v : (⟨2, ![n, k]⟩ : Shape).Idx → α} (h : ∀ a b, u (ix2 a b) = v (ix2 a b)) : u = v := by
  funext i
  rw [ValueIdx.eq_ix2 i]
  exact h _ _

theorem funext_three {n k l : Nat} {α : Type} {u v : (⟨3, ![n, k, l]⟩ : Shape).Idx → α}
    (h : ∀ a b c, u (ix3 a b c) = v (ix3 a b c)) : u = v := by
  funext i
  rw [ValueIdx.eq_ix3 i]
  exact h _ _ _

/-- A device's block of an array cut into four along its first dimension. -/
theorem expert_block {p q : Nat} (c : Fin 32) (A : (⟨3, ![16, p, q]⟩ : Shape).Idx → EReal)
    (h : Layout.TilesN ⟨3, ![4, p, q]⟩ ⟨3, ![16, p, q]⟩ fun b => Layout.cutSize [2, 4, 4] ((![[2], [], []] : Fin 3 → List Nat) b))
    (e : Fin 4) (a : Fin p) (b : Fin q) :
    Layout.blockN ⟨3, ![4, p, q]⟩ ⟨3, ![16, p, q]⟩ (Layout.meshBlock [2, 4, 4] ![[2], [], []] c) A h (ix3 e a b)
      = A (ix3 (Cert.KernelIdeal.At.expert c e) a b) := by
  rw [Layout.blockN_apply]
  congr 1
  funext i
  apply Fin.ext
  rw [Layout.TilesN.idx_val]
  match i with
  | ⟨0, _⟩ => show ((c.val / 1) % 4 * 1 + 0) * 4 + e.val = c.val % 4 * 4 + e.val; omega
  | ⟨1, _⟩ => show 0 * p + a.val = a.val; omega
  | ⟨2, _⟩ => show 0 * q + b.val = b.val; omega

/-- A device's block of a matrix cut into four along its columns. -/
theorem column_block (c : Fin 32) (A : (⟨2, ![1024, 3072]⟩ : Shape).Idx → EReal)
    (h : Layout.TilesN ⟨2, ![1024, 768]⟩ ⟨2, ![1024, 3072]⟩ fun b => Layout.cutSize [2, 4, 4] ((![[], [2]] : Fin 2 → List Nat) b))
    (t : Fin 1024) (b : Fin 768) :
    Layout.blockN ⟨2, ![1024, 768]⟩ ⟨2, ![1024, 3072]⟩ (Layout.meshBlock [2, 4, 4] ![[], [2]] c) A h (ix2 t b)
      = A (ix2 t ⟨c.val % 4 * 768 + b.val, by omega⟩) := by
  rw [Layout.blockN_apply]
  congr 1
  funext i
  apply Fin.ext
  rw [Layout.TilesN.idx_val]
  match i with
  | ⟨0, _⟩ => show 0 * 1024 + t.val = t.val; omega
  | ⟨1, _⟩ => show ((c.val / 1) % 4 * 1 + 0) * 768 + b.val = c.val % 4 * 768 + b.val; omega

/-- Flattening the experts' slots into one row: the column's quotient is the expert, its remainder the slot. -/
theorem flat_narrow (A : (⟨3, ![1024, 4, 192]⟩ : Shape).Idx → EReal) (h : (⟨3, ![1024, 4, 192]⟩ : Shape).ShapeCasts ⟨2, ![1024, 768]⟩)
    (t : Fin 1024) (b : Fin 768) : shapeCast (⟨2, ![1024, 768]⟩ : Shape) A h (ix2 t b)
      = A (ix3 t ⟨b.val / 192, by omega⟩ ⟨b.val % 192, by omega⟩) := by
  pointwise

theorem flat_wide (A : (⟨3, ![1024, 16, 192]⟩ : Shape).Idx → EReal) (h : (⟨3, ![1024, 16, 192]⟩ : Shape).ShapeCasts ⟨2, ![1024, 3072]⟩)
    (t : Fin 1024) (b : Fin 3072) : shapeCast (⟨2, ![1024, 3072]⟩ : Shape) A h (ix2 t b)
      = A (ix3 t ⟨b.val / 192, by omega⟩ ⟨b.val % 192, by omega⟩) := by
  pointwise

/-! ## One device's results are its blocks of the reference's -/

theorem combined_block (c : Fin 32) (g : FVec Ideal ⟨2, ![1024, 16]⟩ .f32) (hg : Spec.Real (Spec.row g))
    (h : Layout.TilesN ⟨2, ![1024, 768]⟩ ⟨2, ![1024, 3072]⟩ fun b => Layout.cutSize [2, 4, 4] ((![[], [2]] : Fin 2 → List Nat) b)) :
    shapeCast Cert.KernelIdeal.S1024x768 (Cert.KernelIdeal.Lines.combine (Cert.KernelIdeal.Lines.slot (Cert.KernelIdeal.Lines.taken (Cert.KernelIdeal.Lines.axisWord c) g))
        (Cert.KernelIdeal.Lines.weights (Cert.KernelIdeal.Lines.axisWord c) g)) Cert.KernelIdeal.Gen.shapeCasts_S1024x4x192_S1024x768
      = Layout.blockN ⟨2, ![1024, 768]⟩ ⟨2, ![1024, 3072]⟩ (Layout.meshBlock [2, 4, 4] ![[], [2]] c)
          (Cert.ReferenceIdeal.Lines.combined g) h := by
  refine funext_two fun t b => ?_
  rw [column_block, flat_narrow, Cert.KernelIdeal.At.combine_at g hg]
  unfold Cert.ReferenceIdeal.Lines.combined
  have he : (⟨(c.val % 4 * 768 + b.val) / 192, by omega⟩ : Fin 16) = Cert.KernelIdeal.At.expert c ⟨b.val / 192, by omega⟩ :=
    Fin.ext (show (c.val % 4 * 768 + b.val) / 192 = c.val % 4 * 4 + b.val / 192 by omega)
  have hs : (⟨(c.val % 4 * 768 + b.val) % 192, by omega⟩ : Fin 192) = ⟨b.val % 192, by omega⟩ :=
    Fin.ext (show (c.val % 4 * 768 + b.val) % 192 = b.val % 192 by omega)
  rw [flat_wide]
  dsimp only
  rw [he, hs, Cert.ReferenceIdeal.At.combine_at g hg]

theorem answered_block (c : Fin 32) (g : FVec Ideal ⟨2, ![1024, 16]⟩ .f32) (hg : Spec.Real (Spec.row g))
    (x : FVec Ideal ⟨2, ![1024, 1024]⟩ .f32) (w1 : FVec Ideal ⟨3, ![16, 1024, 2048]⟩ .f32) (w2 : FVec Ideal ⟨3, ![16, 2048, 1024]⟩ .f32)
    (h1 : Layout.TilesN ⟨3, ![4, 1024, 2048]⟩ ⟨3, ![16, 1024, 2048]⟩ fun b => Layout.cutSize [2, 4, 4] ((![[2], [], []] : Fin 3 → List Nat) b))
    (h2 : Layout.TilesN ⟨3, ![4, 2048, 1024]⟩ ⟨3, ![16, 2048, 1024]⟩ fun b => Layout.cutSize [2, 4, 4] ((![[2], [], []] : Fin 3 → List Nat) b))
    (h3 : Layout.TilesN ⟨3, ![4, 192, 1024]⟩ ⟨3, ![16, 192, 1024]⟩ fun b => Layout.cutSize [2, 4, 4] ((![[2], [], []] : Fin 3 → List Nat) b)) :
    Cert.Rows.ffn (Cert.KernelIdeal.Lines.hot (F := Ideal) (Cert.KernelIdeal.Lines.slot (Cert.KernelIdeal.Lines.taken (Cert.KernelIdeal.Lines.axisWord c) g))) x
        (Layout.blockN ⟨3, ![4, 1024, 2048]⟩ ⟨3, ![16, 1024, 2048]⟩ (Layout.meshBlock [2, 4, 4] ![[2], [], []] c) w1 h1)
        (Layout.blockN ⟨3, ![4, 2048, 1024]⟩ ⟨3, ![16, 2048, 1024]⟩ (Layout.meshBlock [2, 4, 4] ![[2], [], []] c) w2 h2)
      = Layout.blockN ⟨3, ![4, 192, 1024]⟩ ⟨3, ![16, 192, 1024]⟩ (Layout.meshBlock [2, 4, 4] ![[2], [], []] c)
          (Cert.ReferenceIdeal.Lines.answered g x w1 w2) h3 := by
  refine funext_three fun e s j => ?_
  rw [expert_block, Cert.ReferenceIdeal.At.answered_at g hg]
  unfold Cert.Rows.ffn Cert.Rows.layers
  refine Finset.sum_congr rfl fun f _ => ?_
  refine congrArg₂ (· * ·) ?_ (expert_block c w2 h2 e f j)
  refine congrArg (fun u : EReal => max u 0) (Finset.sum_congr rfl fun d _ => ?_)
  refine congrArg₂ (· * ·) ?_ (expert_block c w1 h1 e d f)
  refine Finset.sum_congr rfl fun t _ => ?_
  refine congrArg (· * x (ix2 t d)) ?_
  exact Cert.KernelIdeal.At.hot_at g hg c e s t

/-- A device whose tokens and router are the reference's holds its columns of the reference's combine weights. -/
theorem combined_agrees (c : Fin 32) (x x' : FVec Ideal ⟨2, ![1024, 1024]⟩ .f32) (r r' : FVec Ideal ⟨2, ![1024, 16]⟩ .f32)
    (hx : x = x') (hr : r = r') (hg : Spec.Real (Spec.row (Cert.ReferenceIdeal.Lines.gates x r)))
    (h : Layout.TilesN ⟨2, ![1024, 768]⟩ ⟨2, ![1024, 3072]⟩ fun b => Layout.cutSize [2, 4, 4] ((![[], [2]] : Fin 2 → List Nat) b)) :
    shapeCast Cert.KernelIdeal.S1024x768 (Cert.KernelIdeal.Lines.combine (Cert.KernelIdeal.Lines.slot
          (Cert.KernelIdeal.Lines.taken (Cert.KernelIdeal.Lines.axisWord c) (Cert.KernelIdeal.Lines.gates x r)))
        (Cert.KernelIdeal.Lines.weights (Cert.KernelIdeal.Lines.axisWord c) (Cert.KernelIdeal.Lines.gates x r)))
        Cert.KernelIdeal.Gen.shapeCasts_S1024x4x192_S1024x768
      = Layout.blockN ⟨2, ![1024, 768]⟩ ⟨2, ![1024, 3072]⟩ (Layout.meshBlock [2, 4, 4] ![[], [2]] c)
          (Cert.ReferenceIdeal.Lines.combined (Cert.ReferenceIdeal.Lines.gates x' r')) h := by
  subst hx hr
  rw [gates_eq]
  exact combined_block c _ hg h

/-- If it also holds its experts' blocks of the reference's weights, its rows are its block of the reference's rows. -/
theorem answered_agrees (c : Fin 32) (x x' : FVec Ideal ⟨2, ![1024, 1024]⟩ .f32) (r r' : FVec Ideal ⟨2, ![1024, 16]⟩ .f32)
    (w1 : FVec Ideal ⟨3, ![4, 1024, 2048]⟩ .f32) (w1' : FVec Ideal ⟨3, ![16, 1024, 2048]⟩ .f32)
    (w2 : FVec Ideal ⟨3, ![4, 2048, 1024]⟩ .f32) (w2' : FVec Ideal ⟨3, ![16, 2048, 1024]⟩ .f32)
    (h1 : Layout.TilesN ⟨3, ![4, 1024, 2048]⟩ ⟨3, ![16, 1024, 2048]⟩ fun b => Layout.cutSize [2, 4, 4] ((![[2], [], []] : Fin 3 → List Nat) b))
    (h2 : Layout.TilesN ⟨3, ![4, 2048, 1024]⟩ ⟨3, ![16, 2048, 1024]⟩ fun b => Layout.cutSize [2, 4, 4] ((![[2], [], []] : Fin 3 → List Nat) b))
    (h3 : Layout.TilesN ⟨3, ![4, 192, 1024]⟩ ⟨3, ![16, 192, 1024]⟩ fun b => Layout.cutSize [2, 4, 4] ((![[2], [], []] : Fin 3 → List Nat) b))
    (hx : x = x') (hr : r = r')
    (hw1 : w1 = Layout.blockN ⟨3, ![4, 1024, 2048]⟩ ⟨3, ![16, 1024, 2048]⟩ (Layout.meshBlock [2, 4, 4] ![[2], [], []] c) w1' h1)
    (hw2 : w2 = Layout.blockN ⟨3, ![4, 2048, 1024]⟩ ⟨3, ![16, 2048, 1024]⟩ (Layout.meshBlock [2, 4, 4] ![[2], [], []] c) w2' h2)
    (hg : Spec.Real (Spec.row (Cert.ReferenceIdeal.Lines.gates x r))) :
    Cert.Rows.ffn (Cert.KernelIdeal.Lines.hot (F := Ideal) (Cert.KernelIdeal.Lines.slot
        (Cert.KernelIdeal.Lines.taken (Cert.KernelIdeal.Lines.axisWord c) (Cert.KernelIdeal.Lines.gates x r)))) x w1 w2
      = Layout.blockN ⟨3, ![4, 192, 1024]⟩ ⟨3, ![16, 192, 1024]⟩ (Layout.meshBlock [2, 4, 4] ![[2], [], []] c)
          (Cert.ReferenceIdeal.Lines.answered (Cert.ReferenceIdeal.Lines.gates x' r') x' w1' w2') h3 := by
  subst hx hr hw1 hw2
  rw [gates_eq]
  exact answered_block c _ hg x w1' w2' h1 h2 h3

end Cert.Join

end
-- ==== Proof.Words.lean ====
/-  The run of the program at machine words: no line of it was rewritten, so the idealized program, read at words, is the
    same program and its run is this one's. -/
module

public import proofs.«01_k».proof.Defs
public import proofs.«01_k».proof.Proof.Run
public import proofs.«01_k».proof.Proof.Gen.Kernel

@[expose] public section

set_option maxRecDepth 65536
set_option maxHeartbeats 4000000

noncomputable section

open Idealize.ShloMosaic Idealize.ShloMosaic.TcCoe Idealize.SL.Sem

namespace Cert.Kernel.Frame

/-- Two programs that are equal, over tables that are equal, have the same runs. -/
theorem transfer {nD : Nat} {τ : Topo} {sig : RefSig} {Val : EltTy → Type} {Λ : Labels} {D D' : Defs nD τ sig Val Λ}
    {p p' : Dev nD → Prog (TpuEff nD τ sig Val Λ .tc) PUnit} (hD : D = D') (hp : p = p') (s : MemSt nD τ sig Val)
    (Q : PUnit × MemSt nD τ sig Val → Prop) (h : θ_run D' (onTc (τ := τ) p') s Q) : θ_run D (onTc (τ := τ) p) s Q := by
  subst hD hp
  exact h

theorem main_eq : @Cert.Kernel.main Bits _ Cert.Kernel.Gen.facts = @Cert.KernelIdeal.main Bits _ Cert.KernelIdeal.Gen.facts := rfl

theorem table_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | ⟨0, _⟩, (t, s) => rfl
  | ⟨n + 1, h⟩, _ => exact absurd h (by omega)

theorem defs_eq : @Cert.Kernel.defs Bits _ Cert.Kernel.Gen.facts = @Cert.KernelIdeal.defs Bits _ Cert.KernelIdeal.Gen.facts := by
  unfold Cert.Kernel.defs Cert.KernelIdeal.defs
  exact congrArg (Pipeline.defs (@Cert.Kernel.pcfgs Bits Cert.Kernel.Gen.facts)) table_eq

theorem frame : Cert.quiescent_Kernel (hKernel := Cert.Kernel.Gen.facts) := fun m ρ _ =>
  transfer defs_eq main_eq _ _
    ((θ_run Cert.KernelIdeal.defs _ _).mono (fun _ h => ⟨fun c => (h.1 c).2.2, h.2⟩) (Cert.KernelIdeal.Run.run (F := Bits) m ρ))

end Cert.Kernel.Frame

end
-- ==== Proof.lean ====
/-  The claims: the runs of the two programs, and what they leave where the reference leaves its results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_tokens_KernelIdeal
public import proofs.«01_k».proof.Proof.Gen.Pre_finite_tokens_ReferenceIdeal
public import proofs.«01_k».proof.Proof.Join
public import proofs.«01_k».proof.Proof.Words
public import proofs.«01_k».proof.Proof.Lines
public import Idealize.ShloMosaic.Adequacy
public import Idealize.ShloMosaic.Init

@[expose] public section

noncomputable section

namespace Cert.Proof

open Idealize.ShloMosaic Idealize.ShloMosaic.TcCoe Idealize.SL.Sem

theorem frame_ideal : Cert.quiescent_KernelIdeal (hKernelIdeal := Cert.KernelIdeal.Gen.facts) := fun m ρ _ =>
  (θ_run Cert.KernelIdeal.defs _ _).mono (fun _ h => ⟨fun c => (h.1 c).2.2, h.2⟩) (Cert.KernelIdeal.Run.run (F := Ideal) m ρ)

theorem frame_ref : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Every device ends with its columns of the reference's combine weights and its experts' rows of the reference's rows. -/
theorem value : Cert.algebraic_KernelIdeal_ReferenceIdeal_pre_finite_tokens_KernelIdeal (hKernelIdeal := Cert.KernelIdeal.Gen.facts)
    (hReferenceIdeal := Cert.ReferenceIdeal.Gen.facts)
    (hPre_finite_tokens_KernelIdeal := Cert.Pre_finite_tokens_KernelIdeal.Gen.facts) := by
  intro m ρ m' ρ' hpre hagree
  have hg (c : Dev Cert.KernelIdeal.nD) : Cert.Spec.Real (Cert.Spec.row (Cert.ReferenceIdeal.Lines.gates
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))) :=
    have h := Cert.Join.finite_of_pre _ _ _ _ (hpre c)
    Cert.Join.real_gates _ _ h.1 h.2
  refine ⟨Cert.ReferenceIdeal.Value.res_out0 m' 0, Cert.ReferenceIdeal.Value.res_out1 m' 0, ?_, ?_⟩
  · refine (θ_run Cert.KernelIdeal.defs _ _).mono (fun r h c => ⟨?_, ?_, (h.1 c).2.2⟩) (Cert.KernelIdeal.Run.run (F := Ideal) m ρ)
    · rw [Cert.ReferenceIdeal.Lines.out0_eq]
      exact ((h.1 c).1.trans (Cert.KernelIdeal.Lines.weightRows m c)).trans
        (Cert.Join.combined_agrees c _ _ _ _ (hagree c).1 (hagree c).2.1 (hg c) _)
    · rw [Cert.ReferenceIdeal.Lines.out1_eq]
      have ho := ((h.1 c).2.1.trans (Cert.KernelIdeal.Rows.final m c))
      rw [Cert.KernelIdeal.Lines.operand m c] at ho
      exact ho.trans (Cert.Join.answered_agrees c _ _ _ _ _ _ _ _ _ _ _ (hagree c).1 (hagree c).2.1 (hagree c).2.2.1 (hagree c).2.2.2 (hg c))
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  Cert.Pre_finite_tokens_KernelIdeal.Gen.facts, Cert.Pre_finite_tokens_ReferenceIdeal.Gen.facts,
  Cert.Kernel.Frame.frame, frame_ideal, fun m ρ _ => frame_ideal m ρ trivial, frame_ref, fun m ρ _ => frame_ref m ρ trivial, trivial, value⟩

end Cert.Proof

end
